-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x2048 : Shape := ⟨2, ![2048, 2048]⟩
abbrev S2048x512 : Shape := ⟨2, ![2048, 512]⟩
abbrev S4x512x512 : Shape := ⟨3, ![4, 512, 512]⟩
abbrev S4 : Shape := ⟨1, ![4]⟩
abbrev S_ : Shape := ⟨0, ![]⟩
abbrev S512x512 : Shape := ⟨2, ![512, 512]⟩
abbrev S1x512x512 : Shape := ⟨3, ![1, 512, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x512, .f32⟩
  | .local _ .vmem, ⟨0, _⟩ => ⟨S512x2048, .f32⟩
  | .local _ .vmem, ⟨1, _⟩ => ⟨S2048x2048, .f32⟩
  | .local _ .vmem, ⟨2, _⟩ => ⟨S2048x512, .f32⟩
  | .local _ .vmem, ⟨3, _⟩ => ⟨S4x512x512, .bf16⟩
  | .local _ .vmem, ⟨4, _⟩ => ⟨S4x512x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_28 : BitVec 32) : Fin 2 → Nat :=
  let c0_35 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_28
  let c4_i32_29 : BitVec 32 := 4#32
  let c0_i32_30 : BitVec 32 := 0#32
  let v46 : BitVec 1 := Scalar.cmpi .eq c4_i32_29 c0_i32_30
  let c1_i32_31 : BitVec 32 := 1#32
  let v47 : BitVec 32 := Scalar.select v46 c1_i32_31 c4_i32_29
  let v48 : BitVec 32 := Scalar.remsi v45 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c512_i32 : BitVec 32 := 512#32
  let v56 : BitVec 32 := Scalar.muli v55 c512_i32
  let v57 : Index := Scalar.indexCast v56
  ![0, v57.toNat]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v45 : BitVec 32 := Scalar.addi v2 c2_i32_28
  let c4_i32_29 : BitVec 32 := 4#32
  let c0_i32_30 : BitVec 32 := 0#32
  let v46 : BitVec 1 := Scalar.cmpi .eq c4_i32_29 c0_i32_30
  let c1_i32_31 : BitVec 32 := 1#32
  let v47 : BitVec 32 := Scalar.select v46 c1_i32_31 c4_i32_29
  let v48 : BitVec 32 := Scalar.remsi v45 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c1_i32_44 : BitVec 32 := 1#32
  let v67 : BitVec 32 := Scalar.muli v55 c1_i32_44
  let v68 : BitVec 32 := Scalar.addi c0_i32_45 v67
  v68.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v77 : BitVec 32 := Scalar.addi v2 c1_i32_50
  let c4_i32_51 : BitVec 32 := 4#32
  let c0_i32_52 : BitVec 32 := 0#32
  let v78 : BitVec 1 := Scalar.cmpi .eq c4_i32_51 c0_i32_52
  let c1_i32_53 : BitVec 32 := 1#32
  let v79 : BitVec 32 := Scalar.select v78 c1_i32_53 c4_i32_51
  let v80 : BitVec 32 := Scalar.remsi v77 v79
  let c0_i32_55 : BitVec 32 := 0#32
  let v82 : BitVec 1 := Scalar.cmpi .slt v80 c0_i32_55
  let c0_i32_56 : BitVec 32 := 0#32
  let v83 : BitVec 1 := Scalar.cmpi .slt v79 c0_i32_56
  let v84 : BitVec 1 := Scalar.xori v82 v83
  let c0_i32_54 : BitVec 32 := 0#32
  let v81 : BitVec 1 := Scalar.cmpi .ne v80 c0_i32_54
  let v85 : BitVec 1 := Scalar.andi v84 v81
  let v86 : BitVec 32 := Scalar.addi v80 v79
  let v87 : BitVec 32 := Scalar.select v85 v86 v80
  let c1_i32_67 : BitVec 32 := 1#32
  let v99 : BitVec 32 := Scalar.muli v87 c1_i32_67
  let v100 : BitVec 32 := Scalar.addi c0_i32_68 v99
  v100.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_73 : BitVec 32 := 3#32
  let v109 : BitVec 32 := Scalar.addi v2 c3_i32_73
  let c4_i32_74 : BitVec 32 := 4#32
  let c0_i32_75 : BitVec 32 := 0#32
  let v110 : BitVec 1 := Scalar.cmpi .eq c4_i32_74 c0_i32_75
  let c1_i32_76 : BitVec 32 := 1#32
  let v111 : BitVec 32 := Scalar.select v110 c1_i32_76 c4_i32_74
  let v112 : BitVec 32 := Scalar.remsi v109 v111
  let c0_i32_78 : BitVec 32 := 0#32
  let v114 : BitVec 1 := Scalar.cmpi .slt v112 c0_i32_78
  let c0_i32_79 : BitVec 32 := 0#32
  let v115 : BitVec 1 := Scalar.cmpi .slt v111 c0_i32_79
  let v116 : BitVec 1 := Scalar.xori v114 v115
  let c0_i32_77 : BitVec 32 := 0#32
  let v113 : BitVec 1 := Scalar.cmpi .ne v112 c0_i32_77
  let v117 : BitVec 1 := Scalar.andi v116 v113
  let v118 : BitVec 32 := Scalar.addi v112 v111
  let v119 : BitVec 32 := Scalar.select v117 v118 v112
  let c1_i32_90 : BitVec 32 := 1#32
  let v131 : BitVec 32 := Scalar.muli v119 c1_i32_90
  let v132 : BitVec 32 := Scalar.addi c0_i32_91 v131
  v132.toNat
def k0_off2 (d0 : Dev nD) : Fin 2 → Nat :=
  let c0_97 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_96 : BitVec 32 := 512#32
  let v141 : BitVec 32 := Scalar.muli v2 c512_i32_96
  let v142 : Index := Scalar.indexCast v141
  ![0, v142.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_100 : BitVec 32 := 512#32
  let v148 : BitVec 32 := Scalar.muli v2 c512_i32_100
  let v149 : Index := Scalar.indexCast v148
  let c0_101 : Index := 0#32
  ![v149.toNat, 0]
def k0_off4 (d0 : Dev nD) (c1_i32_102 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v151 : BitVec 32 := Scalar.subi v2 c1_i32_102
  let c4_i32_103 : BitVec 32 := 4#32
  let c0_i32_104 : BitVec 32 := 0#32
  let v152 : BitVec 1 := Scalar.cmpi .eq c4_i32_103 c0_i32_104
  let c1_i32_105 : BitVec 32 := 1#32
  let v153 : BitVec 32 := Scalar.select v152 c1_i32_105 c4_i32_103
  let v154 : BitVec 32 := Scalar.remsi v151 v153
  let c0_i32_107 : BitVec 32 := 0#32
  let v156 : BitVec 1 := Scalar.cmpi .slt v154 c0_i32_107
  let c0_i32_108 : BitVec 32 := 0#32
  let v157 : BitVec 1 := Scalar.cmpi .slt v153 c0_i32_108
  let v158 : BitVec 1 := Scalar.xori v156 v157
  let c0_i32_106 : BitVec 32 := 0#32
  let v155 : BitVec 1 := Scalar.cmpi .ne v154 c0_i32_106
  let v159 : BitVec 1 := Scalar.andi v158 v155
  let v160 : BitVec 32 := Scalar.addi v154 v153
  let v161 : BitVec 32 := Scalar.select v159 v160 v154
  let c512_i32_122 : BitVec 32 := 512#32
  let v173 : BitVec 32 := Scalar.muli v161 c512_i32_122
  let v174 : Index := Scalar.indexCast v173
  let c0_123 : Index := 0#32
  ![v174.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdealCells.lean ====
/-
The exchange of the kernel of `KernelIdeal`, stated: the offsets round the mesh of four devices, the slots
of the two scratch buffers, the semaphore cells, the blocks that travel, and the schedule of the cells.

Device `c` computes four blocks of rows of `max (x · w) 0`, one for every device. It sends the block for
the device `h` places on (`h = 1, 2, 3`) from slot `h` of its send buffer into slot `h` of that device's
receive buffer. Before the first transfer every device signals the three others, and each signal hands the
signalled device the slot of the signaller's receive buffer that it will write.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Writes
public import Idealize.ShloMosaic.Lib.Tactic

@[expose] public section

set_option maxRecDepth 8000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the kernel's own cells, a duty named by an offset round the mesh. -/
abbrev XB : Type := URounds (GSem nD τ sig) (Fin 4)
/-- The pipeline's rounds beside the kernel's. -/
abbrev XU : Type := UR sig nD τ × XB

local notation "𝕄" => MT nD τ sig Unit (Elt F) ℕ XU ℕ

abbrev EP : Emb (UR sig nD τ) (MT nD τ sig Unit (Elt F) ℕ XU ℕ) := embL
abbrev EX : Emb XB (MT nD τ sig Unit (Elt F) ℕ XU ℕ) := embR

variable (m : (ℓ : Loc nD τ sig) → Buf (Elt F) ℓ) (ρ : Dev nD → PrngReg)

/-- The launch state: memory `m`, every counter at zero. -/
def s₀ : MemSt nD τ sig (Elt F) := ⟨m, fun _ => 0, ρ⟩

/-! ## Offsets round the mesh -/

/-- The device `h` places on from `c`. -/
def fwd (c : Dev nD) (h : Fin 4) : Dev nD := ⟨(c.val + h.val) % 4, Nat.mod_lt _ (by decide)⟩
/-- The device `h` places back from `c`. -/
def bwd (c : Dev nD) (h : Fin 4) : Dev nD := ⟨(c.val + 4 - h.val) % 4, Nat.mod_lt _ (by decide)⟩
/-- The offset that undoes `h`. -/
def inv (h : Fin 4) : Fin 4 := ⟨(4 - h.val) % 4, Nat.mod_lt _ (by decide)⟩

theorem bwd_fwd (c : Dev nD) (h : Fin 4) : bwd (fwd c h) h = c := by revert c h; decide
theorem fwd_bwd (c : Dev nD) (h : Fin 4) : fwd (bwd c h) h = c := by revert c h; decide
theorem bwd_inv (c : Dev nD) (h : Fin 4) : bwd c (inv h) = fwd c h := by revert c h; decide

/-- Moving every device `h` places on. -/
def turn (h : Fin 4) : Dev nD ≃ Dev nD := ⟨fun c => fwd c h, fun c => bwd c h, fun c => bwd_fwd c h, fun c => fwd_bwd c h⟩

/-- The devices the kernel's three signals and three transfers name. -/
theorem dev1_eq (c : Dev nD) : (⟨k0_dev1 c, k0_dev1_lt c⟩ : Dev nD) = fwd c 1 := by revert c; decide +kernel
theorem dev2_eq (c : Dev nD) : (⟨k0_dev2 c, k0_dev2_lt c⟩ : Dev nD) = fwd c 2 := by revert c; decide +kernel
theorem dev3_eq (c : Dev nD) : (⟨k0_dev3 c, k0_dev3_lt c⟩ : Dev nD) = fwd c 3 := by revert c; decide +kernel
theorem dev4_eq (c : Dev nD) : (⟨k0_dev4 c, k0_dev4_lt c⟩ : Dev nD) = fwd c 2 := by revert c; decide +kernel
theorem dev5_eq (c : Dev nD) : (⟨k0_dev5 c, k0_dev5_lt c⟩ : Dev nD) = fwd c 1 := by revert c; decide +kernel
theorem dev6_eq (c : Dev nD) : (⟨k0_dev6 c, k0_dev6_lt c⟩ : Dev nD) = fwd c 3 := by revert c; decide +kernel

/-- The columns of `w` the kernel reads, and the rows of the result it writes. -/
theorem off1_1 (c : Dev nD) : k0_off1 c 1#32 = ![0, 512 * (fwd c 1).val] := by revert c; decide +kernel
theorem off1_2 (c : Dev nD) : k0_off1 c 2#32 = ![0, 512 * (fwd c 2).val] := by revert c; decide +kernel
theorem off1_3 (c : Dev nD) : k0_off1 c 3#32 = ![0, 512 * (fwd c 3).val] := by revert c; decide +kernel
theorem off4_1 (c : Dev nD) : k0_off4 c 1#32 = ![512 * (bwd c 1).val, 0] := by revert c; decide +kernel
theorem off4_2 (c : Dev nD) : k0_off4 c 2#32 = ![512 * (bwd c 2).val, 0] := by revert c; decide +kernel
theorem off4_3 (c : Dev nD) : k0_off4 c 3#32 = ![512 * (bwd c 3).val, 0] := by revert c; decide +kernel

/-! ## The buffers and their slots -/

abbrev xM : Memref sig .tc .vmem S512x2048 .f32 := Memref.whole cc0_stg0_0
abbrev wM : Memref sig .tc .vmem S2048x2048 .f32 := Memref.whole cc0_stg1_0
abbrev oM : Memref sig .tc .vmem S2048x512 .f32 := Memref.whole cc0_stg2_0
abbrev sM : Memref sig .tc .vmem S4x512x512 .bf16 := Memref.whole cc0_scratch0
abbrev rM : Memref sig .tc .vmem S4x512x512 .bf16 := Memref.whole cc0_scratch1

theorem slot_inb (h : Fin 4) : ∀ a, (![h.val, 0, 0] : Fin 3 → Nat) a + S1x512x512.size a ≤ S4x512x512.size a := by
  revert h; decide
/-- Slot `h` of a buffer of four blocks. -/
abbrev slot (h : Fin 4) : Rect S4x512x512 := Rect.unit (s := S4x512x512) ![h.val, 0, 0] S1x512x512.size (slot_inb h)

abbrev sSl (h : Fin 4) : Memref sig .tc .vmem S1x512x512 .bf16 := sM.slice (slot h) (fun _ => rfl)
abbrev rSl (h : Fin 4) : Memref sig .tc .vmem S1x512x512 .bf16 := rM.slice (slot h) (fun _ => rfl)
/-- A slot as the transfers name it, its unit axis dropped. -/
abbrev sSq (h : Fin 4) : Memref sig .tc .vmem S512x512 .bf16 := (sSl h).squeeze S512x512 squeezes_S1x512x512_S512x512
abbrev rSq (h : Fin 4) : Memref sig .tc .vmem S512x512 .bf16 := (rSl h).squeeze S512x512 squeezes_S1x512x512_S512x512

theorem mem_slot (h : Fin 4) (i : S4x512x512.Idx) : i ∈ (slot h).set ↔ (i 0).val = h.val := by
  rw [Rect.mem_set_unit]
  constructor
  · intro hi
    have h0 := hi 0
    have h1 : h.val ≤ (i 0).val ∧ (i 0).val < h.val + 1 := h0
    omega
  · intro hi a
    match a with
    | ⟨0, _⟩ => show h.val ≤ (i 0).val ∧ (i 0).val < h.val + 1; omega
    | ⟨1, _⟩ => exact ⟨Nat.zero_le _, by have := (i 1).isLt; show (i 1).val < 0 + 512; simpa using this⟩
    | ⟨2, _⟩ => exact ⟨Nat.zero_le _, by have := (i 2).isLt; show (i 2).val < 0 + 512; simpa using this⟩

theorem slot_disjoint (h h' : Fin 4) (hh : h ≠ h') : Disjoint (slot h).set (slot h').set := by
  rw [Finset.disjoint_left]
  intro i hi hi'
  rw [mem_slot] at hi hi'
  exact hh (Fin.ext (hi.symm.trans hi'))

theorem slot_cover : (Finset.univ : Finset (Fin 4)).biUnion (fun h => (slot h).set) = Finset.univ := by
  ext i
  simp only [Finset.mem_biUnion, Finset.mem_univ, true_and, iff_true]
  exact ⟨⟨(i 0).val, (i 0).isLt⟩, (mem_slot _ i).mpr rfl⟩

/-! ## The semaphores and their cells -/

abbrev barS : Sem sig := (SemArray.scalar (sig.barrier 0 rfl) : Sems sig S_).sem
/-- The semaphore that counts the sends out of slot `h`. -/
abbrev sndS (h : Fin 4) : DmaSem sig := ⟨3 + h.val, by have := h.isLt; show _ < 11; omega⟩
/-- The semaphore that counts the arrivals in slot `h`. -/
abbrev rcvS (h : Fin 4) : DmaSem sig := ⟨7 + h.val, by have := h.isLt; show _ < 11; omega⟩

theorem snd1 : ((cc0_scratch2.slice (Rect.unit (s := S4) ![1] ![1] inb_S4_S1_1)).squeeze S_ squeezes_S1_S_).sem = sndS 1 := rfl
theorem snd2 : ((cc0_scratch2.slice (Rect.unit (s := S4) ![2] ![1] inb_S4_S1_2)).squeeze S_ squeezes_S1_S_).sem = sndS 2 := rfl
theorem snd3 : ((cc0_scratch2.slice (Rect.unit (s := S4) ![3] ![1] inb_S4_S1_3)).squeeze S_ squeezes_S1_S_).sem = sndS 3 := rfl
theorem rcv1 : ((cc0_scratch3.slice (Rect.unit (s := S4) ![1] ![1] inb_S4_S1_1)).squeeze S_ squeezes_S1_S_).sem = rcvS 1 := rfl
theorem rcv2 : ((cc0_scratch3.slice (Rect.unit (s := S4) ![2] ![1] inb_S4_S1_2)).squeeze S_ squeezes_S1_S_).sem = rcvS 2 := rfl
theorem rcv3 : ((cc0_scratch3.slice (Rect.unit (s := S4) ![3] ![1] inb_S4_S1_3)).squeeze S_ squeezes_S1_S_).sem = rcvS 3 := rfl

abbrev barCell (c : Dev nD) : GSem nD τ sig := ((c : Thread nD τ), .reg barS)
abbrev sndCell (c : Dev nD) (h : Fin 4) : GSem nD τ sig := ((c : Thread nD τ), .dma (sndS h))
abbrev rcvCell (c : Dev nD) (h : Fin 4) : GSem nD τ sig := ((c : Thread nD τ), .dma (rcvS h))

/-- The credit of one block. -/
abbrev N : ℕ := (rSq 0).view.dmaCredit
theorem N_pos : 0 < N := View.dmaCredit_pos _ (by decide)
theorem credit_s (h : Fin 4) : (sSq h).view.dmaCredit = N := rfl
theorem credit_r (h : Fin 4) : (rSq h).view.dmaCredit = N := rfl

/-! ## Contents -/

/-- Device `c`'s block of `x` and its copy of `w`, as the kernel's windows hold them. -/
def xstg (c : Dev nD) : (cc0_stg0_0 : Ref sig .tc).ty.Contents (Elt F) :=
  (win0_0.blk t0_0).view.read (Elt F) (m ((c : Thread nD τ).loc main_arg0))
def wstg (c : Dev nD) : (cc0_stg1_0 : Ref sig .tc).ty.Contents (Elt F) :=
  (win0_1.blk t0_0).view.read (Elt F) (m ((c : Thread nD τ).loc main_arg1))

theorem cols_inb (d : Dev nD) : ∀ a, (![0, 512 * d.val] : Fin 2 → Nat) a + S2048x512.size a ≤ S2048x2048.size a := by
  revert d; decide
theorem rows_inb (d : Dev nD) : ∀ a, (![512 * d.val, 0] : Fin 2 → Nat) a + S512x512.size a ≤ S2048x512.size a := by
  revert d; decide
/-- The columns of `w` that belong to device `d`. -/
abbrev cols (d : Dev nD) : Rect S2048x2048 := Rect.unit (s := S2048x2048) ![0, 512 * d.val] S2048x512.size (cols_inb d)
/-- The rows of a device's result that device `d`'s block of `x` gives. -/
abbrev rows (d : Dev nD) : Rect S2048x512 := Rect.unit (s := S2048x512) ![512 * d.val, 0] S512x512.size (rows_inb d)

/-- The columns of `w` for device `d`, read from device `c`'s copy. -/
def wcols (c d : Dev nD) : Vec F S2048x512 .f32 := wM.view.readAt (Elt F) (cols d).toLoadRect (wstg m c)

/-- The block device `c` computes for device `d`, as it travels. -/
def blk (c d : Dev nD) : FVec F S1x512x512 .bf16 := k0_pay2 (xstg m c) (wcols m c d)

/-- The rows that device `d`'s block of `x` gives in device `c`'s result: its own computed in place, another's as they arrived. -/
def outRows (d c : Dev nD) : FVec F S512x512 .f32 :=
  if d = c then k0_pay5 (k0_pay1 (xstg m c)) (wcols m c c) else k0_pay6 (blk m d c)

/-- Device `c`'s result: the four blocks of rows under one another. -/
def outAt (c : Dev nD) : (cc0_stg2_0 : Ref sig .tc).ty.Contents (Elt F) := fun i =>
  outRows m ⟨(i 0).val / 512, by have h : (i 0).val < 2048 := (i 0).isLt; show _ < 4; omega⟩ c
    (fun a => match a with
      | ⟨0, _⟩ => ⟨(i 0).val % 512, Nat.mod_lt _ (by decide)⟩
      | ⟨1, _⟩ => ⟨(i 1).val, (i 1).isLt⟩)

/-! ## Slots held -/

/-- Device `c` holds slot `h` of its send buffer, at contents `f` of the buffer. -/
def sPts (c : Dev nD) (h : Fin 4) (f : Buf (Elt F) ((c : Thread nD τ).loc cc0_scratch0)) : sProp 𝕄 :=
  (sSl h).view.loc (c : Thread nD τ) ↦[(sSl h).view.set]{fullShare} f
/-- Slot `h` of device `c`'s receive buffer is held, at contents `f` of the buffer. -/
def rPts (c : Dev nD) (h : Fin 4) (f : Buf (Elt F) ((c : Thread nD τ).loc cc0_scratch1)) : sProp 𝕄 :=
  (rSl h).view.loc (c : Thread nD τ) ↦[(rSl h).view.set]{fullShare} f

instance sPts_storable (c : Dev nD) (h : Fin 4) (f) : BI.Storable (upEmb : UEmb _ 𝕄) (sPts (F := F) c h f) := by unfold sPts; infer_instance
instance rPts_storable (c : Dev nD) (h : Fin 4) (f) : BI.Storable (upEmb : UEmb _ 𝕄) (rPts (F := F) c h f) := by unfold rPts; infer_instance

/-- A conjunction over the four offsets, spelt out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sPts_eq (c : Dev nD) (h : Fin 4) (f) :
    sPts (F := F) c h f = (((c : Thread nD τ).loc cc0_scratch0) ↦[((slot h).set : Finset S4x512x512.Idx)]{fullShare} f) := by
  unfold sPts
  show (((c : Thread nD τ).loc cc0_scratch0) ↦[((View.whole cc0_scratch0).slice (slot h)).set]{fullShare} f : sProp 𝕄) = _
  rw [View.set_slice_whole]

/-- The whole send buffer is its four slots. -/
theorem send_split (c : Dev nD) (f : Buf (Elt F) ((c : Thread nD τ).loc cc0_scratch0)) :
    ((((c : Thread nD τ).loc cc0_scratch0) ↦{fullShare} f : sProp 𝕄)) ⊢ iprop(sPts c 0 f ∗ sPts c 1 f ∗ sPts c 2 f ∗ sPts c 3 f) := by
  refine Entails.of_eq ?_
  have e := pointsTo_biUnion (Ix := Unit) (Name := ℕ) (U := XU) (Lvl := ℕ) (ℓ := (c : Thread nD τ).loc cc0_scratch0) (q := fullShare) (f := f)
    Finset.univ (fun h : Fin 4 => (slot h).set) (fun h _ h' _ hh => slot_disjoint h h' hh)
  rw [slot_cover, bigSep_four] at e
  simp only [sPts_eq]
  exact e

/-- Four slots of the send buffer, each at some contents, are the whole buffer at some. -/
theorem send_join (c : Dev nD) : iprop((∃ f, sPts c 0 f) ∗ (∃ f, sPts c 1 f) ∗ (∃ f, sPts c 2 f) ∗ (∃ f, sPts c 3 f))
    ⊢ (iprop(∃ f, ((c : Thread nD τ).loc cc0_scratch0) ↦{fullShare} f) : sProp 𝕄) := by
  iintro ⟨⟨%f0, H0⟩, ⟨%f1, H1⟩, ⟨%f2, H2⟩, ⟨%f3, H3⟩⟩
  have e := pointsTo_biUnion_join (Ix := Unit) (Name := ℕ) (U := XU) (Lvl := ℕ) (ℓ := (c : Thread nD τ).loc cc0_scratch0) (q := fullShare)
    Finset.univ (fun h : Fin 4 => (slot h).set) ![f0, f1, f2, f3] f0 (fun h _ h' _ hh => slot_disjoint h h' hh)
  rw [slot_cover, bigSep_four] at e
  simp only [sPts_eq]
  ihave H := e $$ [H0 H1 H2 H3]
  · isplitl [H0]; · iexact H0
    isplitl [H1]; · iexact H1
    isplitl [H2]; · iexact H2
    iexact H3
  icases H with ⟨%g, -, H⟩
  iexists g; iexact H

theorem rPts_eq (c : Dev nD) (h : Fin 4) (f) :
    rPts (F := F) c h f = (((c : Thread nD τ).loc cc0_scratch1) ↦[((slot h).set : Finset S4x512x512.Idx)]{fullShare} f) := by
  unfold rPts
  show (((c : Thread nD τ).loc cc0_scratch1) ↦[((View.whole cc0_scratch1).slice (slot h)).set]{fullShare} f : sProp 𝕄) = _
  rw [View.set_slice_whole]

/-- The whole recv buffer is its four slots. -/
theorem recv_split (c : Dev nD) (f : Buf (Elt F) ((c : Thread nD τ).loc cc0_scratch1)) :
    ((((c : Thread nD τ).loc cc0_scratch1) ↦{fullShare} f : sProp 𝕄)) ⊢ iprop(rPts c 0 f ∗ rPts c 1 f ∗ rPts c 2 f ∗ rPts c 3 f) := by
  refine Entails.of_eq ?_
  have e := pointsTo_biUnion (Ix := Unit) (Name := ℕ) (U := XU) (Lvl := ℕ) (ℓ := (c : Thread nD τ).loc cc0_scratch1) (q := fullShare) (f := f)
    Finset.univ (fun h : Fin 4 => (slot h).set) (fun h _ h' _ hh => slot_disjoint h h' hh)
  rw [slot_cover, bigSep_four] at e
  simp only [rPts_eq]
  exact e

/-- Four slots of the recv buffer, each at some contents, are the whole buffer at some. -/
theorem recv_join (c : Dev nD) : iprop((∃ f, rPts c 0 f) ∗ (∃ f, rPts c 1 f) ∗ (∃ f, rPts c 2 f) ∗ (∃ f, rPts c 3 f))
    ⊢ (iprop(∃ f, ((c : Thread nD τ).loc cc0_scratch1) ↦{fullShare} f) : sProp 𝕄) := by
  iintro ⟨⟨%f0, H0⟩, ⟨%f1, H1⟩, ⟨%f2, H2⟩, ⟨%f3, H3⟩⟩
  have e := pointsTo_biUnion_join (Ix := Unit) (Name := ℕ) (U := XU) (Lvl := ℕ) (ℓ := (c : Thread nD τ).loc cc0_scratch1) (q := fullShare)
    Finset.univ (fun h : Fin 4 => (slot h).set) ![f0, f1, f2, f3] f0 (fun h _ h' _ hh => slot_disjoint h h' hh)
  rw [slot_cover, bigSep_four] at e
  simp only [rPts_eq]
  ihave H := e $$ [H0 H1 H2 H3]
  · isplitl [H0]; · iexact H0
    isplitl [H1]; · iexact H1
    isplitl [H2]; · iexact H2
    iexact H3
  icases H with ⟨%g, -, H⟩
  iexists g; iexact H

/-! ## The schedule -/

/-- Duty `d` of device `c`'s barrier cell, paid by the device `d` places back: that device's slot for the
    blocks `c` sends it, at any contents. -/
def barPay (c : Dev nD) (d : Fin 4) : sProp 𝕄 := iprop(∃ f, rPts (F := F) (bwd c d) (inv d) f)
/-- A completed send out of slot `h` gives the slot back. -/
def sndPay (c : Dev nD) (h : Fin 4) : sProp 𝕄 := iprop(∃ f, sPts (F := F) c h f)
/-- An arrival in slot `h` gives the slot, holding the block of the device `h` places back. -/
def rcvPay (c : Dev nD) (h : Fin 4) : sProp 𝕄 := owns (c : Thread nD τ) (rSl h) fullShare (blk m (bwd c h) c)

/-- The duties of a semaphore: one for each other device on the barrier, one on each send and receive semaphore but
    those of slot zero, which nothing uses. -/
def semDuties : SemLoc sig → Finset (Fin 4)
  | .reg s => if s = barS then {1, 2, 3} else ∅
  | .dma q => if q = sndS 1 ∨ q = sndS 2 ∨ q = sndS 3 ∨ q = rcvS 1 ∨ q = rcvS 2 ∨ q = rcvS 3 then {0} else ∅

/-- The duties of a cell: those of its semaphore, in round zero of a TensorCore. -/
def duties (g : GSem nD τ sig) (r : ℕ) : Finset (Fin 4) :=
  if r = 0 ∧ g.1.2 = .tc then semDuties g.2 else ∅

/-- The schedule of the exchange, in one round. -/
def sched : Rounds.Schedule (GSem nD τ sig) (Fin 4) 𝕄 where
  duties := duties
  unitless _ := False
  amount g _ _ := match g.2 with | .reg _ => 1 | .dma _ => N
  payload g _ d := match g.2 with
    | .reg _ => barPay g.1.1 d
    | .dma q => if q.val < 7 then sndPay g.1.1 ⟨(q.val - 3) % 4, Nat.mod_lt _ (by decide)⟩
      else rcvPay m g.1.1 ⟨(q.val - 7) % 4, Nat.mod_lt _ (by decide)⟩
  amount_pos g _ _ _ := by
    rcases g with ⟨t, s | q⟩
    · exact Nat.one_pos
    · exact N_pos

instance sched_payload_storable (g : GSem nD τ sig) (r : ℕ) (d : Fin 4) :
    BI.Storable (upEmb : UEmb _ 𝕄) ((sched (F := F) m).payload g r d) := by
  rcases g with ⟨t, s | q⟩
  · show BI.Storable upEmb (barPay t.1 d)
    unfold barPay; infer_instance
  · show BI.Storable upEmb (if q.val < 7 then sndPay t.1 _ else rcvPay m t.1 _)
    unfold sndPay rcvPay
    split <;> infer_instance

section Sched
variable (c : Dev nD)

theorem semDuties_snd (h : Fin 4) (hh : h ≠ 0) : semDuties (.dma (sndS h)) = {0} := by revert h; decide
theorem semDuties_rcv (h : Fin 4) (hh : h ≠ 0) : semDuties (.dma (rcvS h)) = {0} := by revert h; decide
theorem semDuties_bar : semDuties (.reg barS) = {1, 2, 3} := by decide
theorem duties_tc (sm : SemLoc sig) : (sched (F := F) m).duties ((c : Thread nD τ), sm) 0 = semDuties sm := by
  show duties ((c : Thread nD τ), sm) 0 = _
  unfold duties; exact if_pos ⟨rfl, rfl⟩
theorem duties_bar : (sched (F := F) m).duties (barCell c) 0 = {1, 2, 3} := by rw [duties_tc, semDuties_bar]
theorem duties_snd (h : Fin 4) (hh : h ≠ 0) : (sched (F := F) m).duties (sndCell c h) 0 = {0} := by rw [duties_tc, semDuties_snd h hh]
theorem duties_rcv (h : Fin 4) (hh : h ≠ 0) : (sched (F := F) m).duties (rcvCell c h) 0 = {0} := by rw [duties_tc, semDuties_rcv h hh]
theorem duties_later (g : GSem nD τ sig) : ∀ r, 1 ≤ r → (sched (F := F) m).duties g r = ∅ :=
  fun r hr => if_neg fun h => by omega
theorem duties_snd0 : ∀ r, 0 ≤ r → (sched (F := F) m).duties (sndCell c 0) r = ∅ := fun r _ => by
  show duties (sndCell c 0) r = ∅
  unfold duties; split
  · show semDuties (.dma _) = ∅; decide
  · rfl
theorem duties_rcv0 : ∀ r, 0 ≤ r → (sched (F := F) m).duties (rcvCell c 0) r = ∅ := fun r _ => by
  show duties (rcvCell c 0) r = ∅
  unfold duties; split
  · show semDuties (.dma _) = ∅; decide
  · rfl

theorem amount_bar (d : Fin 4) : (sched (F := F) m).amount (barCell c) 0 d = 1 := rfl
theorem amount_dma (q : DmaSem sig) (d : Fin 4) : (sched (F := F) m).amount ((c : Thread nD τ), .dma q) 0 d = N := rfl

theorem expect_bar : (sched (F := F) m).expect (barCell c) 0 = 3 := by
  unfold Schedule.expect Schedule.amountOf
  rw [duties_bar, Finset.sum_congr rfl fun d _ => amount_bar m c d]; rfl
theorem expect_snd (h : Fin 4) (hh : h ≠ 0) : (sched (F := F) m).expect (sndCell c h) 0 = N := by
  unfold Schedule.expect Schedule.amountOf
  rw [duties_snd m c h hh, Finset.sum_singleton, amount_dma]
theorem expect_rcv (h : Fin 4) (hh : h ≠ 0) : (sched (F := F) m).expect (rcvCell c h) 0 = N := by
  unfold Schedule.expect Schedule.amountOf
  rw [duties_rcv m c h hh, Finset.sum_singleton, amount_dma]

theorem payload_bar (d : Fin 4) : (sched (F := F) m).payload (barCell c) 0 d = barPay c d := rfl
theorem payload_snd (h : Fin 4) (d : Fin 4) : (sched (F := F) m).payload (sndCell c h) 0 d = sndPay c h := by
  show (if 3 + h.val < 7 then sndPay c _ else rcvPay m c _) = _
  rw [if_pos (by have := h.isLt; omega)]
  exact congrArg _ (Fin.ext (by have := h.isLt; show (3 + h.val - 3) % 4 = h.val; omega))
theorem payload_rcv (h : Fin 4) (d : Fin 4) : (sched (F := F) m).payload (rcvCell c h) 0 d = rcvPay m c h := by
  show (if 7 + h.val < 7 then sndPay c _ else rcvPay m c _) = _
  rw [if_neg (by omega)]
  exact congrArg _ (Fin.ext (by have := h.isLt; show (7 + h.val - 7) % 4 = h.val; omega))

theorem rest_bar : bigSep ((sched (F := F) m).duties (barCell c) 0 \ ∅) (fun d => (sched (F := F) m).payload (barCell c) 0 d)
    = iprop(barPay c 1 ∗ barPay c 2 ∗ barPay c 3) := by
  rw [Finset.sdiff_empty, duties_bar, bigSep_eq_bigSepL_of_eq [1, 2, 3] (by decide) (by decide)]
  rfl
theorem rest_snd (h : Fin 4) (hh : h ≠ 0) : bigSep ((sched (F := F) m).duties (sndCell c h) 0 \ ∅) (fun d => (sched (F := F) m).payload (sndCell c h) 0 d)
    = sndPay c h := by
  rw [Finset.sdiff_empty, duties_snd m c h hh, bigSep_singleton, payload_snd]
theorem rest_rcv (h : Fin 4) (hh : h ≠ 0) : bigSep ((sched (F := F) m).duties (rcvCell c h) 0 \ ∅) (fun d => (sched (F := F) m).payload (rcvCell c h) 0 d)
    = rcvPay m c h := by
  rw [Finset.sdiff_empty, duties_rcv m c h hh, bigSep_singleton, payload_rcv]

end Sched

/-! ## What a device owes, and the order of the waits -/

/-- What device `c` still owes, innermost the last paid: the arrival at offset 3, the one at 1, the one at 2, then the
    signals to the devices 3, 2 and 1 places on. -/
def O₁ (c : Dev nD) : CellTallies nD τ sig Unit := tallyAt (rcvCell (fwd c 3) 3) () N
def O₂ (c : Dev nD) : CellTallies nD τ sig Unit := O₁ c + tallyAt (rcvCell (fwd c 1) 1) () N
def O₃ (c : Dev nD) : CellTallies nD τ sig Unit := O₂ c + tallyAt (rcvCell (fwd c 2) 2) () N
def O₄ (c : Dev nD) : CellTallies nD τ sig Unit := O₃ c + tallyAt (barCell (fwd c 3)) () 1
def O₅ (c : Dev nD) : CellTallies nD τ sig Unit := O₄ c + tallyAt (barCell (fwd c 2)) () 1
def O₀ (c : Dev nD) : CellTallies nD τ sig Unit := O₅ c + tallyAt (barCell (fwd c 1)) () 1

/-- The cells that are waited on: a TensorCore's. -/
def L (g : GSem nD τ sig) : Finset Unit := if g.1.2 = .tc then {()} else ∅
/-- The levels: staging and send cells 0, the barrier 1, the receive cells 2. -/
def lv (g : GSem nD τ sig) (_ : Unit) : ℕ := match g.2 with | .reg _ => 1 | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- After its signals a device owes receive cells only. -/
theorem O₃_pos {c : Dev nD} {g : GSem nD τ sig} {u : Unit} (h : 0 < O₃ c g u) : ∃ d k, g = rcvCell d k := by
  unfold O₃ O₂ O₁ at h
  simp only [Pi.add_apply, Finsupp.add_apply, tallyAt_apply] at h
  by_contra hn
  simp only [not_exists] at hn
  rw [if_neg (fun h' => hn _ _ h'.1), if_neg (fun h' => hn _ _ h'.1), if_neg (fun h' => hn _ _ h'.1)] at h
  exact absurd h (by decide)
/-- At launch it owes receive cells and barrier cells. -/
theorem O₀_pos {c : Dev nD} {g : GSem nD τ sig} {u : Unit} (h : 0 < O₀ c g u) : (∃ d k, g = rcvCell d k) ∨ ∃ d, g = barCell d := by
  unfold O₀ O₅ O₄ at h
  simp only [Pi.add_apply, Finsupp.add_apply, tallyAt_apply] at h
  by_contra hn
  simp only [not_or, not_exists] at hn
  rw [if_neg (fun h' => hn.2 _ h'.1), if_neg (fun h' => hn.2 _ h'.1), if_neg (fun h' => hn.2 _ h'.1)] at h
  simp only [Nat.add_zero] at h
  obtain ⟨d, k, e⟩ := O₃_pos h
  exact hn.1 d k e

/-- A device may wait on a staging cell at launch and when it owes nothing. -/
theorem mayWait_stage (c : Dev nD) (q : DmaSem sig) (hq : ¬ 7 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> exact Finset.mem_singleton_self _)
      (fun p hp => by rw [Finset.mem_singleton.mp hp]; show (if 7 ≤ q.val then 2 else 0) ≤ 0; rw [if_neg hq])
      (fun g u hg => by
        rcases O₀_pos hg with ⟨d, k, rfl⟩ | ⟨d, rfl⟩
        · show 0 < (if 7 ≤ 7 + k.val then 2 else 0); rw [if_pos (by omega)]; decide
        · exact Nat.one_pos)
  · rw [MayWait_zero]; iintro -; iempintro

/-- At its barrier wait a device owes receive cells, which lie above. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨d, k, rfl⟩ := O₃_pos hg; exact Finset.mem_singleton_self _)
    (fun p hp => by rw [Finset.mem_singleton.mp hp]; exact le_refl 1)
    (fun g u hg => by
      obtain ⟨d, k, rfl⟩ := O₃_pos hg
      show 1 < (if 7 ≤ 7 + k.val then 2 else 0); rw [if_pos (by omega)]; decide)

end Cert.KernelIdealRun

end
-- ==== Proof.KernelIdealSteps.lean ====
/-
The steps of the body of `KernelIdeal`: what a device knows and holds, and one rule for each kind of signal, transfer,
wait and store it makes.
-/
module

public import proofs.«01_k».proof.Proof.KernelIdealCells

@[expose] public section

set_option maxRecDepth 8000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ XU ℕ

variable (m : (ℓ : Loc nD τ sig) → Buf (Elt F) ℓ) (ρ : Dev nD → PrngReg)

/-! ## The cells by number -/

/-- A device's nine cells: the barrier, then the send cells of the four slots, then their receive cells. -/
abbrev csem : Fin 9 → SemLoc sig := fun
  | 0 => .reg barS
  | 1 => .dma (sndS 0) | 2 => .dma (sndS 1) | 3 => .dma (sndS 2) | 4 => .dma (sndS 3)
  | 5 => .dma (rcvS 0) | 6 => .dma (rcvS 1) | 7 => .dma (rcvS 2) | 8 => .dma (rcvS 3)
abbrev kcell (ck : Dev nD × Fin 9) : GSem nD τ sig := ((ck.1 : Thread nD τ), csem ck.2)
/-- The number of the send cell and of the receive cell of slot `h`. -/
abbrev ks (h : Fin 4) : Fin 9 := ⟨1 + h.val, by have := h.isLt; omega⟩
abbrev kr (h : Fin 4) : Fin 9 := ⟨5 + h.val, by have := h.isLt; omega⟩
theorem csem_ks (h : Fin 4) : csem (ks h) = .dma (sndS h) := by revert h; decide
theorem csem_kr (h : Fin 4) : csem (kr h) = .dma (rcvS h) := by revert h; decide
theorem kcell_ks (c : Dev nD) (h : Fin 4) : kcell (c, ks h) = sndCell c h := by unfold kcell; rw [csem_ks]
theorem kcell_kr (c : Dev nD) (h : Fin 4) : kcell (c, kr h) = rcvCell c h := by unfold kcell; rw [csem_kr]

/-! ## The ghost state of a device -/

/-- What every device knows: the invariant of every cell of every device, and that each is at its first round. -/
def records (K : Dev nD × Fin 9 → ℕ) : sProp 𝕄 :=
  iprop((bigSep Finset.univ fun ck : Dev nD × Fin 9 => cellInv EX (sched m) (K ck) (kcell ck))
    ∗ bigSep Finset.univ fun ck : Dev nD × Fin 9 => reached EX (kcell ck) 0)
instance records_persistent (K : Dev nD × Fin 9 → ℕ) : BI.Persistent (records m K) := by unfold records; infer_instance

theorem know_inv (K : Dev nD × Fin 9 → ℕ) (ck : Dev nD × Fin 9) : records m K ⊢ cellInv EX (sched m) (K ck) (kcell ck) := by
  have h : (bigSep Finset.univ fun ck : Dev nD × Fin 9 => (cellInv EX (sched m) (K ck) (kcell ck) : sProp 𝕄)) ⊢ cellInv EX (sched m) (K ck) (kcell ck) :=
    bigSep_elim (Finset.mem_univ ck)
  unfold records
  iintro ⟨HI, -⟩
  iapply h; iexact HI
theorem know_reached (K : Dev nD × Fin 9 → ℕ) (ck : Dev nD × Fin 9) : records m K ⊢ reached EX (kcell ck) 0 := by
  have h : (bigSep Finset.univ fun ck : Dev nD × Fin 9 => (reached EX (kcell ck) 0 : sProp 𝕄)) ⊢ reached EX (kcell ck) 0 :=
    bigSep_elim (Finset.mem_univ ck)
  unfold records
  iintro ⟨-, HR⟩
  iapply h; iexact HR

section Know
variable (K : Dev nD × Fin 9 → ℕ) (c : Dev nD) (h : Fin 4)
theorem inv_bar : records m K ⊢ cellInv EX (sched m) (K (c, 0)) (barCell c) := know_inv m K (c, 0)
theorem inv_snd : records m K ⊢ cellInv EX (sched m) (K (c, ks h)) (sndCell c h) := by rw [← kcell_ks]; exact know_inv m K (c, ks h)
theorem inv_rcv : records m K ⊢ cellInv EX (sched m) (K (c, kr h)) (rcvCell c h) := by rw [← kcell_kr]; exact know_inv m K (c, kr h)
theorem reached_bar : records m K ⊢ reached EX (barCell c) 0 := know_reached m K (c, 0)
theorem reached_snd : records m K ⊢ reached EX (sndCell c h) 0 := by rw [← kcell_ks]; exact know_reached m K (c, ks h)
theorem reached_rcv : records m K ⊢ reached EX (rcvCell c h) 0 := by rw [← kcell_kr]; exact know_reached m K (c, kr h)
end Know

/-- The tokens of the duties device `c` pays at offset `h`: the barrier signal to the device `h` places on, the arrival
    there, and its own send. -/
def payTok (c : Dev nD) (h : Fin 4) : sProp 𝕄 :=
  iprop(dutyTok EX (barCell (fwd c h)) 0 h ∗ dutyTok EX (rcvCell (fwd c h) h) 0 0 ∗ dutyTok EX (sndCell c h) 0 0)
/-- Device `c`'s positions at its nine cells, each at the round `r k`. -/
def places (c : Dev nD) (r : Fin 9 → ℕ) : sProp 𝕄 := bigSep Finset.univ fun k : Fin 9 => atPos EX (kcell (c, k)) (r k) ∅ 0
theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- What device `c` starts with: the common knowledge, its positions, the tokens it pays with. -/
def ghost (K : Dev nD × Fin 9 → ℕ) (c : Dev nD) : sProp 𝕄 :=
  iprop(records m K ∗ places c (fun _ => 0) ∗ payTok c 1 ∗ payTok c 2 ∗ payTok c 3)

/-- Before the body: the ghost state and the credits of the launch, under some names of the invariants. -/
def start (c : Dev nD) : sProp 𝕄 :=
  iprop((∃ K, ghost m K c) ∗ cred (tallyAt (barCell c) () 3) ∗ cred (tallyAt (rcvCell c 1) () N) ∗ cred (tallyAt (rcvCell c 2) () N)
    ∗ cred (tallyAt (rcvCell c 3) () N) ∗ levAts L lv)
/-- Both scratch buffers, at any contents. -/
def scratch (c : Dev nD) : sProp 𝕄 :=
  iprop((∃ f, ((c : Thread nD τ).loc cc0_scratch0) ↦{fullShare} f) ∗ ∃ f, ((c : Thread nD τ).loc cc0_scratch1) ↦{fullShare} f)
/-- Every one of the nine counters at zero. -/
def zeros (c : Dev nD) : sProp 𝕄 := bigSep Finset.univ fun k : Fin 9 => semVal (kcell (c, k)) 0

/-- The pipeline of device `c`: the windows' arrays at launch, what the body leaves in the staging buffers, what it
    takes and returns beside them, and what it owes. -/
def dats (_ : Fin 1) (c : Dev nD) : Dat τ (Elt F) Unit ℕ XU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

abbrev 𝒱₀ : Variants := Variants.none

/-! ## Closing the cells -/

/-- Every cell of a device has no duty from the round where the body leaves it. -/
theorem no_duties (c : Dev nD) (k : Fin 9) : ∀ r, (![1, 0, 1, 1, 1, 0, 1, 1, 1] : Fin 9 → ℕ) k ≤ r → (sched (F := F) m).duties (kcell (c, k)) r = ∅ := by
  fin_cases k
  · exact duties_later m _
  · exact duties_snd0 m c
  · exact duties_later m _
  · exact duties_later m _
  · exact duties_later m _
  · exact duties_rcv0 m c
  · exact duties_later m _
  · exact duties_later m _
  · exact duties_later m _

/-- With every wait done the nine cells close, their counters at zero. -/
theorem close_all (K : Dev nD × Fin 9 → ℕ) (c : Dev nD) :
    iprop(records m K ∗ places c ![1, 0, 1, 1, 1, 0, 1, 1, 1]) ⊢ |={Set.univ}=> (zeros c : sProp 𝕄) := by
  unfold places zeros
  refine (sep_mono_left (BI.bigSep_of_persistent (Finset.univ : Finset (Fin 9)) (records m K))).trans ?_
  rw [← bigSep_sep']
  refine (bigSep_mono fun k _ => ?_).trans (bigSep_fupd _ _)
  show iprop(records m K ∗ atPos EX (kcell (c, k)) (![1, 0, 1, 1, 1, 0, 1, 1, 1] k) ∅ 0) ⊢ (|={Set.univ}=> semVal (kcell (c, k)) 0 : sProp 𝕄)
  iintro ⟨#HR, Hat⟩
  iapply (Rounds.cell_close EX (sched m) (Set.mem_univ (K (c, k))) (fun h => h) (no_duties m c k))
  isplitr
  · iapply (know_inv m K (c, k)); iexact HR
  · iexact Hat

/-! ## Signals, transfers and waits -/

section Rules

variable (K : Dev nD × Fin 9 → ℕ)

/-- Signalling the device `h` places on pays one duty of its barrier with the slot of the receive buffer it will write. -/
theorem wp_tell (c n : Dev nD) (h : Fin 4) (hh : h ∈ ({1, 2, 3} : Finset (Fin 4))) (hn : n = fwd c h) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (barCell (fwd c h)) () 1) W ∗ dutyTok EX (barCell (fwd c h)) 0 h
        ∗ ∃ f, rPts (F := F) c (inv h) f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toNat) k) Q) := by
  subst hn
  iintro ⟨#HR, HO, Htok, Hslot⟩ Hk
  iapply (Rounds.wp_signal 𝒱₀ EX (sched m) (c : Thread nD τ) none (dst := (fwd c h : Thread nD τ)) (κ := K (fwd c h, 0))
      (d := h) (by rw [duties_bar]; exact hh) ((amount_bar m (fwd c h) h).trans (by decide)) () O rfl) $$ [HO Htok Hslot]
  · isplitr; · iapply (inv_bar m K (fwd c h)); iexact HR
    isplitl [HO]; · iexact HO
    isplitl [Htok]; · iexact Htok
    isplitl [Hslot]
    · rw [payload_bar]; unfold barPay; rw [bwd_fwd]; iexact Hslot
    · iapply (reached_bar m K (fwd c h)); iexact HR
  iexact Hk

/-- A view read after a write through its reshaping of what another view's reshaping reads: what the other view reads. -/
theorem read_write_reshaped {κ κ' : Kind} {sp sp' : Space} {s s' : Shape} {e : EltTy} (v : View sig κ sp s e) (u : View sig κ' sp' s e)
    (hn : s'.numel = s.numel) (fd : v.ty.Contents (Elt F)) (fs : u.ty.Contents (Elt F)) :
    v.read (Elt F) ((v.reshape s' hn).write (Elt F) fd ((u.reshape s' hn).read (Elt F) fs) Finset.univ) = u.read (Elt F) fs := by
  rw [View.write_reshape_univ, View.read_write_univ]
  funext x
  show u.read (Elt F) fs (Shape.reshapeEquiv hn ((Shape.reshapeEquiv hn).symm x)) = _
  rw [Equiv.apply_symm_apply]
/-- A transfer through squeezed memrefs leaves the destination holding what the source held. -/
theorem owns_landed (t : Thread nD τ) {κ : Kind} {sp sp' : Space} {s s' : Shape} {e : EltTy} (v : Memref sig t.2.kind sp s e) (u : Memref sig κ sp' s e)
    (hq : s.Squeezes s') (fd : v.view.ty.Contents (Elt F)) (fs : u.view.ty.Contents (Elt F)) (X : s.Idx → Elt F e) (hX : u.view.read (Elt F) fs = X) :
    ((v.squeeze s' hq).view.loc t ↦[(v.squeeze s' hq).view.set]{fullShare}
        (v.squeeze s' hq).view.write (Elt F) fd ((u.squeeze s' hq).view.read (Elt F) fs) Finset.univ : sProp 𝕄) ⊢ owns t v fullShare X := by
  have e : v.view.read (Elt F) ((v.squeeze s' hq).view.write (Elt F) fd ((u.squeeze s' hq).view.read (Elt F) fs) Finset.univ) = X :=
    (read_write_reshaped v.view u.view hq.numel_eq fd fs).trans hX
  have es : (v.squeeze s' hq).view.set = v.view.set := View.set_reshape _ _
  unfold owns
  iintro H
  iexists ((v.squeeze s' hq).view.write (Elt F) fd ((u.squeeze s' hq).view.read (Elt F) fs) Finset.univ)
  isplitr; · ipureintro; exact e
  rw [es]; iexact H

theorem sSq_set (h : Fin 4) : (sSq h).view.set = (sSl h).view.set := View.set_reshape _ _
theorem rSq_set (h : Fin 4) : (rSq h).view.set = (rSl h).view.set := View.set_reshape _ _

/-- Sending slot `h`, which holds the block for the device `h` places on: its slot `h` will hold that block. -/
theorem wp_send_slot (c n : Dev nD) (h : Fin 4) (hh : h ≠ 0) (hn : n = fwd c h) (O : CellTallies nD τ sig Unit) (W : Waits sig Unit)
    (fd : Buf (Elt F) ((fwd c h : Thread nD τ).loc cc0_scratch1))
    {hsc : (rSq h : Memref sig (Dev.tc n : Thread nD τ).2.kind .vmem S512x512 .bf16).view.ref.isScScratch = false}
    {hsrc : (sSq h).view.WordExact} {hdst : (rSq h).view.WordExact}
    {hsem : DmaTarget.Typed .vmem (.dma (rcvS h)) (.remote (Dev.tc n : Thread nD τ) (rSq h) (.dma (sndS h)) hsc)}
    {α : Type} {Q : α → sProp 𝕄} {k : PUnit → Prog (TpuEff nD τ sig (Elt F) Λ₀ .tc) α} :
    iprop(records m K ∗ owns (c : Thread nD τ) (sSl h) fullShare (blk m c (fwd c h)) ∗ rPts (F := F) (fwd c h) h fd
        ∗ owes (c : Thread nD τ) (O + tallyAt (rcvCell (fwd c h) h) () N) W
        ∗ dutyTok EX (sndCell c h) 0 0 ∗ dutyTok EX (rcvCell (fwd c h) h) 0 0)
      ⊢ iprop(((cred (tallyAt (sndCell c h) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSq h) (.remote (Dev.tc n : Thread nD τ) (rSq h) (.dma (sndS h)) hsc) (.dma (rcvS h)) hsrc hdst hsem) k) Q) := by
  subst hn
  unfold owns
  iintro ⟨#HR, ⟨%fs, %hfs, Hs⟩, Hd, HO, Ht1, Ht2⟩ Hk
  iapply (Rounds.wp_send_pointsTo 𝒱₀ EX (sched m) (c : Thread nD τ) none (κ₁ := K (c, ks h)) (κ₂ := K (fwd c h, kr h))
    (c' := (fwd c h : Thread nD τ)) (src := sSq h) (dst := rSq h) (q := fullShare) (fs := fs)
    (r₁ := 0) (r₂ := 0) (d₁ := 0) (d₂ := 0) (fd := fd)
    (by rw [duties_snd m c h hh]; exact Finset.mem_singleton_self _) (by rw [duties_rcv m (fwd c h) h hh]; exact Finset.mem_singleton_self _)
    () () N rfl (amount_dma m c (sndS h) 0) (amount_dma m (fwd c h) (rcvS h) 0) O rfl (W := W)
    (by
      rw [payload_snd]; unfold sndPay sPts
      iintro H; iexists fs; rw [sSq_set]; iexact H)
    (by
      rw [payload_rcv]; unfold rcvPay; rw [bwd_fwd]
      exact owns_landed (fwd c h : Thread nD τ) (rSl h) (sSl h) squeezes_S1x512x512_S512x512 fd fs _ hfs)) $$ [Hs Hd HO Ht1 Ht2]
  · isplitr; · iapply (inv_snd m K c h); iexact HR
    isplitr; · iapply (inv_rcv m K (fwd c h) h); iexact HR
    isplitl [Hs]; · rw [sSq_set]; iexact Hs
    isplitl [Hd]; · unfold rPts; rw [rSq_set]; iexact Hd
    isplitl [HO]; · iexact HO
    isplitl [Ht1]; · iexact Ht1
    isplitr; · iapply (reached_snd m K c h); iexact HR
    isplitl [Ht2]; · iexact Ht2
    iapply (reached_rcv m K (fwd c h) h); iexact HR
  iexact Hk

/-- The wait for the three signals hands over the slots this device writes on the three others. -/
theorem wp_wait_bar (c : Dev nD) (W : Waits sig Unit) {α : Type} {Q : α → sProp 𝕄} {k : PUnit → Prog (TpuEff nD τ sig (Elt F) Λ₀ .tc) α} :
    iprop(records m K ∗ levAts L lv ∗ cred (tallyAt (barCell c) () 3) ∗ owes (c : Thread nD τ) (O₃ c) W ∗ atPos EX (barCell c) 0 ∅ 0)
      ⊢ iprop(((owes (c : Thread nD τ) (O₃ c) (insert (SemLoc.reg barS, ()) W) ∗ atPos EX (barCell c) 1 ∅ 0
            ∗ (∃ f, rPts (F := F) (fwd c 1) 1 f) ∗ (∃ f, rPts (F := F) (fwd c 2) 2 f) ∗ ∃ f, rPts (F := F) (fwd c 3) 3 f)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  iintro ⟨#HR, #Hlev, Hc, HO, Hat⟩ Hk
  iapply (Rounds.wp_wait_rest_token 𝒱₀ EX (sched m) (c : Thread nD τ) none (κ := K (c, 0))
      (wpE_semWait_eq 𝒱₀ (c : Thread nD τ) none Set.univ) (Set.mem_univ _) () (O := O₃ c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨H1, H2, H3⟩
  iapply Hk
  isplitl [HO]; · iexact HO
  isplitl [Hat]; · iexact Hat
  isplitl [H3]; · rw [show fwd c 1 = bwd c 3 from (bwd_inv c 1).symm]; iexact H3
  isplitl [H2]; · rw [show fwd c 2 = bwd c 2 from (bwd_inv c 2).symm]; iexact H2
  rw [show fwd c 3 = bwd c 1 from (bwd_inv c 3).symm]; iexact H1

/-- Waiting for a send out of slot `h` gives the slot back; -/
theorem wp_wait_snd (c : Dev nD) (h : Fin 4) (hh : h ≠ 0) (W : Waits sig Unit)
    {src dst : Memref sig .tc .vmem S512x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ cred (tallyAt (sndCell c h) () N) ∗ owes (c : Thread nD τ) 0 W ∗ atPos EX (sndCell c h) 0 ∅ 0)
      ⊢ iprop(((owes (c : Thread nD τ) 0 (insert (SemLoc.dma (sndS h), ()) W) ∗ atPos EX (sndCell c h) 1 ∅ 0 ∗ ∃ f, sPts (F := F) c h f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS h) src dst hsrc hdst) k) Q) := by
  iintro ⟨#HR, Hc, HO, Hat⟩ Hk
  iapply (Rounds.wp_wait_rest_token 𝒱₀ EX (sched m) (c : Thread nD τ) none (κ := K (c, ks h))
      (wpE_waitDma2_eq 𝒱₀ (c : Thread nD τ) none Set.univ) (Set.mem_univ _) () (O := 0) (W := W) (R := 0) (m := 0) (T := ∅)
      (by rw [Nat.zero_add, hN, expect_snd m c h hh])) $$ [Hc HO Hat]
  · isplitr; · iapply (inv_snd m K c h); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_snd m c h hh)) $$ Hpay
  unfold sndPay; iexact Hp

/-- waiting for the arrival in slot `h` gives the slot with the block of the device `h` places back. -/
theorem wp_wait_rcv (c : Dev nD) (h : Fin 4) (hh : h ≠ 0) (W : Waits sig Unit)
    {src dst : Memref sig .tc .vmem S512x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(records m K ∗ cred (tallyAt (rcvCell c h) () N) ∗ owes (c : Thread nD τ) 0 W ∗ atPos EX (rcvCell c h) 0 ∅ 0)
      ⊢ iprop(((owes (c : Thread nD τ) 0 (insert (SemLoc.dma (rcvS h), ()) W) ∗ atPos EX (rcvCell c h) 1 ∅ 0
            ∗ ∃ f, ⌜((rSl h).view.read (Elt F) f : S1x512x512.Idx → Elt F .bf16) = blk m (bwd c h) c⌝ ∗ rPts (F := F) c h f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS h) src dst hsrc hdst) k) Q) := by
  iintro ⟨#HR, Hc, HO, Hat⟩ Hk
  iapply (Rounds.wp_wait_rest_token 𝒱₀ EX (sched m) (c : Thread nD τ) none (κ := K (c, kr h))
      (wpE_waitDma2_eq 𝒱₀ (c : Thread nD τ) none Set.univ) (Set.mem_univ _) () (O := 0) (W := W) (R := 0) (m := 0) (T := ∅)
      (by rw [Nat.zero_add, hN, expect_rcv m c h hh])) $$ [Hc HO Hat]
  · isplitr; · iapply (inv_rcv m K c h); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  ihave Hp := (Entails.of_eq (rest_rcv m c h hh)) $$ Hpay
  unfold rcvPay owns
  icases Hp with ⟨%f, %hf, Hp⟩
  iexists f
  isplitr; · ipureintro; exact hf
  unfold rPts; iexact Hp

end Rules

/-! ## The reads and writes of the two staged operands and of the result -/

theorem zero_off : (![0, 0] : Fin 2 → Nat) = fun _ => 0 := funext fun a => by fin_cases a <;> rfl
/-- The whole of `x` is read. -/
theorem read_x (f : (cc0_stg0_0 : Ref sig .tc).ty.Contents (Elt F)) (inb) :
    (xM : Memref sig .tc .vmem S512x2048 .f32).view.readAt (Elt F) (Rect.unit (s := S512x2048) ![0, 0] ![512, 2048] inb).toLoadRect f = f :=
  Memref.readAt_unit_zero (Elt F) cc0_stg0_0 zero_off _ _
/-- The columns of `w` for device `d`, however their offset is written. -/
theorem read_w (c d : Dev nD) (off : Fin 2 → ℕ) (e : off = ![0, 512 * d.val]) (inb) :
    (wM : Memref sig .tc .vmem S2048x2048 .f32).view.readAt (Elt F) (Rect.unit (s := S2048x2048) off ![2048, 512] inb).toLoadRect (wstg m c) = wcols m c d := by
  subst e; rfl

/-- The block of rows an index of the result lies in, and its place there. -/
def rowDev (i : S2048x512.Idx) : Dev nD := ⟨(i 0).val / 512, by have h : (i 0).val < 2048 := (i 0).isLt; show _ < 4; omega⟩
def rowIdx (i : S2048x512.Idx) : S512x512.Idx := fun a => match a with
  | ⟨0, _⟩ => ⟨(i 0).val % 512, Nat.mod_lt _ (by decide)⟩
  | ⟨1, _⟩ => ⟨(i 1).val, (i 1).isLt⟩
theorem outAt_apply (c : Dev nD) (i : S2048x512.Idx) : outAt m c i = outRows m (rowDev i) c (rowIdx i) := rfl

/-- A result buffer with the rows of device `d` replaced by `w`. -/
def putRows (d : Dev nD) (f : (cc0_stg2_0 : Ref sig .tc).ty.Contents (Elt F)) (w : S512x512.Idx → Elt F .f32) : (cc0_stg2_0 : Ref sig .tc).ty.Contents (Elt F) :=
  fun (i : S2048x512.Idx) => if rowDev i = d then w (rowIdx i) else f i

theorem rows_emb (d : Dev nD) (i : S2048x512.Idx) (hi : rowDev i = d) : (rows d).emb (rowIdx i) = i := by
  have h0 : (i 0).val / 512 = d.val := congrArg Fin.val hi
  funext a
  match a with
  | ⟨0, _⟩ => exact Fin.ext (by show 512 * d.val + 1 * ((i 0).val % 512) = (i 0).val; omega)
  | ⟨1, _⟩ => exact Fin.ext (by show 0 + 1 * (i 1).val = (i 1).val; omega)

/-- Storing the rows of device `d`, however their offset is written. -/
theorem write_rows (d : Dev nD) (off : Fin 2 → ℕ) (e : off = ![512 * d.val, 0]) (inb)
    (f : (cc0_stg2_0 : Ref sig .tc).ty.Contents (Elt F)) (w : S512x512.Idx → Elt F .f32) :
    ((oM : Memref sig .tc .vmem S2048x512 .f32).access (Rect.unit (s := S2048x512) off ![512, 512] inb)).write (Elt F) f w Finset.univ = putRows d f w := by
  subst e
  funext i
  show ((oM : Memref sig .tc .vmem S2048x512 .f32).access (rows d)).write (Elt F) f w Finset.univ i = if rowDev i = d then w (rowIdx i) else f i
  by_cases hi : rowDev i = d
  · rw [if_pos hi]
    conv_lhs => rw [← rows_emb d i hi]
    exact View.write_emb_of_mem (v := (oM : Memref sig .tc .vmem S2048x512 .f32).access (rows d)) f w (Finset.mem_univ (rowIdx i))
  · rw [if_neg hi]
    refine View.write_of_not_mem (v := (oM : Memref sig .tc .vmem S2048x512 .f32).access (rows d)) f w Finset.univ fun hm => hi ?_
    have hm' : i ∈ (rows d).set := by
      rw [View.setOn_univ] at hm
      exact (View.set_slice_whole cc0_stg2_0 (rows d)) ▸ hm
    rw [Rect.mem_set_unit] at hm'
    have h0 : 512 * d.val ≤ (i 0).val ∧ (i 0).val < 512 * d.val + 512 := hm' 0
    exact Fin.ext (by show (i 0).val / 512 = d.val; omega)

/-- The four stores of rows, in the body's order, make the result. -/
theorem out_final (c : Dev nD) (f : (cc0_stg2_0 : Ref sig .tc).ty.Contents (Elt F)) :
    putRows (bwd c 2) (putRows (bwd c 3) (putRows (bwd c 1) (putRows c f (k0_pay5 (k0_pay1 (xstg m c)) (wcols m c c)))
      (k0_pay6 (blk m (bwd c 1) c))) (k0_pay6 (blk m (bwd c 3) c))) (k0_pay6 (blk m (bwd c 2) c)) = outAt m c := by
  funext i
  have hc : ∀ c d : Dev nD, d = c ∨ d = bwd c 1 ∨ d = bwd c 2 ∨ d = bwd c 3 := by decide
  have h12 : ∀ c : Dev nD, bwd c 1 ≠ bwd c 2 ∧ bwd c 1 ≠ bwd c 3 ∧ bwd c 3 ≠ bwd c 2 ∧ bwd c 1 ≠ c ∧ bwd c 2 ≠ c ∧ bwd c 3 ≠ c := by decide
  obtain ⟨e1, e2, e3, e4, e5, e6⟩ := h12 c
  show _ = outRows m (rowDev i) c (rowIdx i)
  unfold putRows outRows
  rcases hc c (rowDev i) with h | h | h | h <;> rw [h]
  · rw [if_neg e5.symm, if_neg e6.symm, if_neg e4.symm, if_pos rfl, if_pos rfl]
  · rw [if_neg e1, if_neg e2, if_pos rfl, if_neg e4]
  · rw [if_pos rfl, if_neg e5]
  · rw [if_neg e3, if_pos rfl, if_neg e6]

end Cert.KernelIdealRun

end
-- ==== Proof.KernelIdealBody.lean ====
/-
The body of `KernelIdeal` on one device, run by the rules of `KernelIdealSteps`: it ends with the result at
`outAt`, its scratch buffers back, its nine counters at zero and nothing owed.
-/
module

public import proofs.«01_k».proof.Proof.KernelIdealSteps

@[expose] public section

set_option maxRecDepth 8000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ XU ℕ

variable (m : (ℓ : Loc nD τ sig) → Buf (Elt F) ℓ) (ρ : Dev nD → PrngReg)

variable (K : Dev nD × Fin 9 → ℕ)

/-- A staging buffer held whole at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := XU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(((ghost m K c ∗ cred (tallyAt (barCell c) () 3) ∗ cred (tallyAt (rcvCell c 1) () N) ∗ cred (tallyAt (rcvCell c 2) () N)
      ∗ cred (tallyAt (rcvCell c 3) () N) ∗ levAts L lv) ∗ scratch c)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop((scratch c ∗ zeros c) ∗ (dats m 0 c).owesAt () t0_0.succ ∗ stg c cc0_stg0_0 (xstg m c) ∗ stg c cc0_stg1_0 (wstg m c) ∗ stg c cc0_stg2_0 (outAt m c))

/-- A slot just stored holds what was stored. -/
theorem stored (c : Dev nD) (h : Fin 4) (f : Buf (Elt F) ((c : Thread nD τ).loc cc0_scratch0)) (v w : S1x512x512.Idx → Elt F .bf16) (e : v = w) :
    ((sM.access (slot h)).loc (c : Thread nD τ) ↦[(sM.access (slot h)).set]{fullShare} (sM.access (slot h)).write (Elt F) f v Finset.univ : sProp 𝕄)
      ⊢ owns (c : Thread nD τ) (sSl h) fullShare w := by
  subst e
  unfold owns
  iintro H
  iexists ((sM.access (slot h)).write (Elt F) f v Finset.univ)
  isplitr; · ipureintro; exact View.read_write_univ (v := sM.access (slot h)) f v
  iexact H

/-- Storing the rows of device `d` of the result, however their offset is written. -/
theorem wp_put (c d : Dev nD) (off : Fin 2 → ℕ) (e : off = ![512 * d.val, 0]) (f : (cc0_stg2_0 : Ref sig .tc).ty.Contents (Elt F)) (w : S512x512.Idx → Elt F .f32)
    {inb : ∀ a, off a + (![512, 512] : Fin 2 → ℕ) a ≤ S2048x512.size a}
    {hx : (((oM : Memref sig .tc .vmem S2048x512 .f32).access (Rect.unit (s := S2048x512) off ![512, 512] inb)) : View sig (c : Thread nD τ).2.kind _ _ _).Stores Finset.univ}
    {hm : (Finset.univ : Finset (Rect.unit (s := S2048x512) off ![512, 512] inb).shape.Idx) = Finset.univ ∨ ∀ a, (Rect.unit (s := S2048x512) off ![512, 512] inb).stride a = 1}
    {α : Type} {Q : α → sProp 𝕄} {k : PUnit → Prog (TpuEff nD τ sig (Elt F) Λ₀ .tc) α} :
    ((oM : Memref sig .tc .vmem S2048x512 .f32).view.loc (c : Thread nD τ) ↦{fullShare} f)
      ⊢ iprop((((oM : Memref sig .tc .vmem S2048x512 .f32).view.loc (c : Thread nD τ) ↦{fullShare} putRows d f w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store oM (Rect.unit (s := S2048x512) off ![512, 512] inb) w Finset.univ hx hm) k) Q) := by
  iintro H Hk
  iapply (wp_store 𝒱₀ (c : Thread nD τ) none Set.univ (m := oM)
    (r := Rect.unit (s := S2048x512) off ![512, 512] inb) (Mk := Finset.univ) (f := f) (S := Finset.univ) (Finset.subset_univ _)) $$ H
  rw [write_rows d off e inb f w]
  iexact Hk

set_option maxHeartbeats 4000000 in
/-- The body from what it is given to what it leaves, one rule for each of its effects in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, Prog.bind_assoc, wp_deviceId]

  simp only [snd1, snd2, snd3, rcv1, rcv2, rcv3]
  unfold bodyPre ghost payTok places scratch
  rw [bigSep_nine]
  iintro ⟨⟨⟨⟨⟨#HR, ⟨HaB, HaS0, HaS1, HaS2, HaS3, HaR0, HaR1, HaR2, HaR3⟩, ⟨HtB1, HtR1, HtS1⟩, ⟨HtB2, HtR2, HtS2⟩, HtB3, HtR3, HtS3⟩,
      HcB, HcR1, HcR2, HcR3, #Hlev⟩, ⟨%fs, Hs⟩, %fr, Hr⟩,
    Ho, ⟨%d0, %g0, %hg0, Hx⟩, ⟨%d1, %g1, %hg1, Hw⟩, %d2, %g2, %hg2, Hout⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m 0 c).owed t0_0.castSucc = O₀ c from rfl]
  ihave Hs4 := (send_split c fs) $$ Hs
  icases Hs4 with ⟨Hs0, Hs1, Hs2, Hs3⟩
  ihave Hr4 := (recv_split c fr) $$ Hr
  icases Hr4 with ⟨Hr0, Hr1, Hr2, Hr3⟩
  -- the signal to the device 1 places on, with slot 3
  unfold O₀
  iapply (wp_tell m K c _ 1 (by decide) (dev1_eq c) (O₅ c) _) $$ [HO HtB1 Hr3]
  · isplitr; · iexact HR
    isplitl [HO]; · iexact HO
    isplitl [HtB1]; · iexact HtB1
    iexists fr; iexact Hr3
  iintro HO
  -- the signal to the device 2 places on, with slot 2
  unfold O₅
  iapply (wp_tell m K c _ 2 (by decide) (dev2_eq c) (O₄ c) _) $$ [HO HtB2 Hr2]
  · isplitr; · iexact HR
    isplitl [HO]; · iexact HO
    isplitl [HtB2]; · iexact HtB2
    iexists fr; iexact Hr2
  iintro HO
  -- the signal to the device 3 places on, with slot 1
  unfold O₄
  iapply (wp_tell m K c _ 3 (by decide) (dev3_eq c) (O₃ c) _) $$ [HO HtB3 Hr1]
  · isplitr; · iexact HR
    isplitl [HO]; · iexact HO
    isplitl [HtB3]; · iexact HtB3
    iexists fr; iexact Hr1
  iintro HO
  -- `x` is read
  iapply (wp_load 𝒱₀ (c : Thread nD τ) none Set.univ (m := xM) (Finset.subset_univ _)) $$ Hx; iintro Hx
  rw [read_x]
  -- the block for the device 2 places on, computed and stored in slot 2
  iapply (wp_load 𝒱₀ (c : Thread nD τ) none Set.univ (m := wM) (Finset.subset_univ _)) $$ Hw; iintro Hw
  rw [read_w m c (fwd c 2) _ (off1_2 c)]
  unfold sPts
  iapply (wp_load_rect 𝒱₀ (c : Thread nD τ) none Set.univ (m := sM) (r := slot 2) (Finset.Subset.refl _)) $$ Hs2; iintro Hs2
  iapply (wp_store 𝒱₀ (c : Thread nD τ) none Set.univ (m := sM) (r := slot 2) (Mk := Finset.univ) (S := (sM.access (slot 2)).set) (fun _ h => h)) $$ Hs2; iintro Hs2
  ihave Hb2 := (stored c 2 fs (k0_pay2 (xstg m c) (wcols m c (fwd c 2))) (blk m c (fwd c 2)) rfl) $$ Hs2
  -- the wait for the three signals
  iapply (wp_wait_bar m K c W) $$ [HcB HO HaB]
  · isplitr; · iexact HR
    isplitr; · iexact Hlev
    isplitl [HcB]; · iexact HcB
    isplitl [HO]; · iexact HO
    iexact HaB
  iintro ⟨HO, HaB, ⟨%fd1, Hd1⟩, ⟨%fd2, Hd2⟩, %fd3, Hd3⟩
  -- and sent
  unfold O₃
  iapply (wp_send_slot m K c _ 2 (by decide) (dev4_eq c) (O₂ c) _ fd2) $$ [Hb2 Hd2 HO HtS2 HtR2]
  · isplitr; · iexact HR
    isplitl [Hb2]; · iexact Hb2
    isplitl [Hd2]; · iexact Hd2
    isplitl [HO]; · iexact HO
    isplitl [HtS2] <;> iassumption
  iintro ⟨HcS2, HO⟩
  -- the block for the device 1 places on, computed and stored in slot 1
  iapply (wp_load 𝒱₀ (c : Thread nD τ) none Set.univ (m := wM) (Finset.subset_univ _)) $$ Hw; iintro Hw
  rw [read_w m c (fwd c 1) _ (off1_1 c)]
  iapply (wp_load_rect 𝒱₀ (c : Thread nD τ) none Set.univ (m := sM) (r := slot 1) (Finset.Subset.refl _)) $$ Hs1; iintro Hs1
  iapply (wp_store 𝒱₀ (c : Thread nD τ) none Set.univ (m := sM) (r := slot 1) (Mk := Finset.univ) (S := (sM.access (slot 1)).set) (fun _ h => h)) $$ Hs1; iintro Hs1
  ihave Hb1 := (stored c 1 fs (k0_pay3 (k0_pay1 (xstg m c)) (wcols m c (fwd c 1))) (blk m c (fwd c 1)) rfl) $$ Hs1
  -- and sent
  unfold O₂
  iapply (wp_send_slot m K c _ 1 (by decide) (dev5_eq c) (O₁ c) _ fd1) $$ [Hb1 Hd1 HO HtS1 HtR1]
  · isplitr; · iexact HR
    isplitl [Hb1]; · iexact Hb1
    isplitl [Hd1]; · iexact Hd1
    isplitl [HO]; · iexact HO
    isplitl [HtS1] <;> iassumption
  iintro ⟨HcS1, HO⟩
  -- the block for the device 3 places on, computed and stored in slot 3
  iapply (wp_load 𝒱₀ (c : Thread nD τ) none Set.univ (m := wM) (Finset.subset_univ _)) $$ Hw; iintro Hw
  rw [read_w m c (fwd c 3) _ (off1_3 c)]
  iapply (wp_load_rect 𝒱₀ (c : Thread nD τ) none Set.univ (m := sM) (r := slot 3) (Finset.Subset.refl _)) $$ Hs3; iintro Hs3
  iapply (wp_store 𝒱₀ (c : Thread nD τ) none Set.univ (m := sM) (r := slot 3) (Mk := Finset.univ) (S := (sM.access (slot 3)).set) (fun _ h => h)) $$ Hs3; iintro Hs3
  ihave Hb3 := (stored c 3 fs (k0_pay4 (k0_pay1 (xstg m c)) (wcols m c (fwd c 3))) (blk m c (fwd c 3)) rfl) $$ Hs3
  -- and sent
  rw [show O₁ c = 0 + tallyAt (rcvCell (fwd c 3) 3) () N by unfold O₁; rw [zero_add]]
  iapply (wp_send_slot m K c _ 3 (by decide) (dev6_eq c) (0) _ fd3) $$ [Hb3 Hd3 HO HtS3 HtR3]
  · isplitr; · iexact HR
    isplitl [Hb3]; · iexact Hb3
    isplitl [Hd3]; · iexact Hd3
    isplitl [HO]; · iexact HO
    isplitl [HtS3] <;> iassumption
  iintro ⟨HcS3, HO⟩
  -- the block this device keeps
  iapply (wp_load 𝒱₀ (c : Thread nD τ) none Set.univ (m := wM) (Finset.subset_univ _)) $$ Hw; iintro Hw
  rw [read_w m c c _ (k0_off2_eq c)]
  iapply (wp_load 𝒱₀ (c : Thread nD τ) none Set.univ (m := oM) (Finset.subset_univ _)) $$ Hout; iintro Hout
  iapply (wp_put c c _ (k0_off3_eq c)) $$ Hout; iintro Hout
  -- the arrival in slot 1
  iapply (wp_wait_rcv m K c 1 (by decide) _ (credit_r 1)) $$ [HcR1 HO HaR1]
  · isplitr; · iexact HR
    isplitl [HcR1]; · iexact HcR1
    isplitl [HO]; · iexact HO
    iexact HaR1
  iintro ⟨HO, HaR1, %fr1, %hfr1, Hr1⟩
  unfold rPts
  iapply (wp_load_rect 𝒱₀ (c : Thread nD τ) none Set.univ (m := rM) (r := slot 1) (Finset.Subset.refl _)) $$ Hr1; iintro Hr1
  rw [show (rM.access (slot 1)).read (Elt F) fr1 = blk m (bwd c 1) c from hfr1]
  iapply (wp_load 𝒱₀ (c : Thread nD τ) none Set.univ (m := oM) (Finset.subset_univ _)) $$ Hout; iintro Hout
  iapply (wp_put c (bwd c 1) _ (off4_1 c)) $$ Hout; iintro Hout
  -- the arrival in slot 3
  iapply (wp_wait_rcv m K c 3 (by decide) _ (credit_r 3)) $$ [HcR3 HO HaR3]
  · isplitr; · iexact HR
    isplitl [HcR3]; · iexact HcR3
    isplitl [HO]; · iexact HO
    iexact HaR3
  iintro ⟨HO, HaR3, %fr3, %hfr3, Hr3⟩
  unfold rPts
  iapply (wp_load_rect 𝒱₀ (c : Thread nD τ) none Set.univ (m := rM) (r := slot 3) (Finset.Subset.refl _)) $$ Hr3; iintro Hr3
  rw [show (rM.access (slot 3)).read (Elt F) fr3 = blk m (bwd c 3) c from hfr3]
  iapply (wp_load 𝒱₀ (c : Thread nD τ) none Set.univ (m := oM) (Finset.subset_univ _)) $$ Hout; iintro Hout
  iapply (wp_put c (bwd c 3) _ (off4_3 c)) $$ Hout; iintro Hout
  -- the arrival in slot 2
  iapply (wp_wait_rcv m K c 2 (by decide) _ (credit_r 2)) $$ [HcR2 HO HaR2]
  · isplitr; · iexact HR
    isplitl [HcR2]; · iexact HcR2
    isplitl [HO]; · iexact HO
    iexact HaR2
  iintro ⟨HO, HaR2, %fr2, %hfr2, Hr2⟩
  unfold rPts
  iapply (wp_load_rect 𝒱₀ (c : Thread nD τ) none Set.univ (m := rM) (r := slot 2) (Finset.Subset.refl _)) $$ Hr2; iintro Hr2
  rw [show (rM.access (slot 2)).read (Elt F) fr2 = blk m (bwd c 2) c from hfr2]
  iapply (wp_load 𝒱₀ (c : Thread nD τ) none Set.univ (m := oM) (Finset.subset_univ _)) $$ Hout; iintro Hout
  iapply (wp_put c (bwd c 2) _ (off4_2 c)) $$ Hout; iintro Hout
  -- the send out of slot 2 is done
  iapply (wp_wait_snd m K c 2 (by decide) _ (credit_s 2)) $$ [HcS2 HO HaS2]
  · isplitr; · iexact HR
    isplitl [HcS2]; · iexact HcS2
    isplitl [HO]; · iexact HO
    iexact HaS2
  iintro ⟨HO, HaS2, Hs2⟩
  -- the send out of slot 1 is done
  iapply (wp_wait_snd m K c 1 (by decide) _ (credit_s 1)) $$ [HcS1 HO HaS1]
  · isplitr; · iexact HR
    isplitl [HcS1]; · iexact HcS1
    isplitl [HO]; · iexact HO
    iexact HaS1
  iintro ⟨HO, HaS1, Hs1⟩
  -- the send out of slot 3 is done
  iapply (wp_wait_snd m K c 3 (by decide) _ (credit_s 3)) $$ [HcS3 HO HaS3]
  · isplitr; · iexact HR
    isplitl [HcS3]; · iexact HcS3
    isplitl [HO]; · iexact HO
    iexact HaS3
  iintro ⟨HO, HaS3, Hs3⟩
  -- the cells close and the buffers are whole again
  imod (close_all m K c) $$ [HaB HaS0 HaS1 HaS2 HaS3 HaR0 HaR1 HaR2 HaR3] with Hz
  · isplitr; · iexact HR
    unfold places; rw [bigSep_nine]
    isplitl [HaB]; · iexact HaB
    isplitl [HaS0]; · iexact HaS0
    isplitl [HaS1]; · iexact HaS1
    isplitl [HaS2]; · iexact HaS2
    isplitl [HaS3]; · iexact HaS3
    isplitl [HaR0]; · iexact HaR0
    isplitl [HaR1]; · iexact HaR1
    isplitl [HaR2]; · iexact HaR2
    iexact HaR3
  ihave Hs := (send_join (F := F) c) $$ [Hs0 Hs1 Hs2 Hs3]
  · isplitl [Hs0]; · iexists fs; unfold sPts; iexact Hs0
    isplitl [Hs1]; · iexact Hs1
    isplitl [Hs2] <;> iassumption
  ihave Hr := (recv_join (F := F) c) $$ [Hr0 Hr1 Hr2 Hr3]
  · isplitl [Hr0]; · iexists fr; unfold rPts; iexact Hr0
    isplitl [Hr1]; · iexists fr1; unfold rPts; iexact Hr1
    isplitl [Hr2]; · iexists fr2; unfold rPts; iexact Hr2
    iexists fr3; unfold rPts; iexact Hr3
  rw [show (k0_pay7 (F := F)) = k0_pay6 from rfl, show (k0_pay8 (F := F)) = k0_pay6 from rfl, out_final, wp_ret]; imodintro
  iapply Hk
  unfold bodyPost scratch Dat.owesAt Pipeline.owesWithin
  rw [show (dats m 0 c).owed t0_0.succ = 0 from rfl]
  isplitl [Hs Hr Hz]
  · isplitl [Hs Hr]
    · isplitl [Hs] <;> iassumption
    iexact Hz
  isplitl [HO]
  · iexists _; isplitr; swap; · iexact HO
    ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iexact Hout

def bodyPre' (c : Dev nD) : sProp 𝕄 :=
  iprop((start m c ∗ scratch c) ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- The body as the pipeline asks for it, at its one grid step. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_stg]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2 cc0_scratch3) (fun _ => bodyPost m c)
  unfold bodyPre' start
  iintro ⟨⟨⟨⟨%K, Hg⟩, Hc⟩, Hsc⟩, Ho, Hx, Hw, Hout⟩
  iapply (sound_body m K c fun _ => bodyPost m c)
  unfold bodyPre
  isplitr []
  · isplitl [Hg Hc Hsc]
    · isplitl [Hg Hc]
      · isplitl [Hg] <;> iassumption
      · iexact Hsc
    isplitl [Ho]; · iexact Ho
    isplitl [Hx]; · iexact Hx
    isplitl [Hw] <;> iassumption
  · iintro H; iexact H

end Cert.KernelIdealRun

end
-- ==== Proof.KernelIdealRun.lean ====
/-
The run of `KernelIdeal` on four devices: its nine cells funded and their invariants allocated on every device at once,
the tokens dealt to the devices that pay with them, the credits of the launch, and the run itself.
-/
module

public import proofs.«01_k».proof.Proof.KernelIdealBody
public import Idealize.ShloMosaic.Lib.Pipeline.CollectiveSegs

@[expose] public section

set_option maxRecDepth 8000

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ XU ℕ

variable (m : (ℓ : Loc nD τ sig) → Buf (Elt F) ℓ) (ρ : Dev nD → PrngReg)

/-! ## The cells and the tokens at launch -/

/-- The launch's own semaphores: the send and the receive semaphores of the four slots. -/
abbrev osem : Fin 8 → SemLoc sig := fun k => csem k.succ
theorem ownSemFacts : Pipeline.OwnSemFacts cfg0.spec osem := by decide

/-- Every window is held at the full share. -/
theorem share_eq (c : Dev nD) (w : Fin cfg0.W) : (dats m 0 c).share w = fullShare := by unfold Dat.share; split <;> rfl

theorem csem_inj : ∀ k k' : Fin 9, csem k = csem k' → k = k' := by decide
theorem kcell_inj : Function.Injective (kcell : Dev nD × Fin 9 → GSem nD τ sig) := by
  rintro ⟨c, k⟩ ⟨c', k'⟩ h
  have h1 : c = c' := congrArg (fun g : GSem nD τ sig => g.1.1) h
  have h2 : csem k = csem k' := congrArg Prod.snd h
  rw [h1, csem_inj k k' h2]
/-- All cells of the exchange. -/
def allCells : Finset (GSem nD τ sig) := Finset.univ.map ⟨kcell, kcell_inj⟩

/-- The nine duties on a device's own cells: at each offset the barrier's, the arrival's and the send's. -/
abbrev tokAt : Fin 9 → SemLoc sig × Fin 4 := fun
  | 0 => (.reg barS, 1) | 1 => (.dma (rcvS 1), 0) | 2 => (.dma (sndS 1), 0)
  | 3 => (.reg barS, 2) | 4 => (.dma (rcvS 2), 0) | 5 => (.dma (sndS 2), 0)
  | 6 => (.reg barS, 3) | 7 => (.dma (rcvS 3), 0) | 8 => (.dma (sndS 3), 0)
theorem tokAt_inj : ∀ k k' : Fin 9, tokAt k = tokAt k' → k = k' := by decide
abbrev tokOf (ck : Dev nD × Fin 9) : GSem nD τ sig × ℕ × Fin 4 := (((ck.1 : Thread nD τ), (tokAt ck.2).1), 0, (tokAt ck.2).2)
theorem tokOf_inj : Function.Injective (tokOf : Dev nD × Fin 9 → GSem nD τ sig × ℕ × Fin 4) := by
  rintro ⟨c, k⟩ ⟨c', k'⟩ h
  have h1 : c = c' := congrArg (fun x : GSem nD τ sig × ℕ × Fin 4 => x.1.1.1) h
  have h2 : tokAt k = tokAt k' := congrArg (fun x : GSem nD τ sig × ℕ × Fin 4 => (x.1.2, x.2.2)) h
  rw [h1, tokAt_inj k k' h2]
/-- All duties of the exchange. -/
def allToks : Finset (GSem nD τ sig × ℕ × Fin 4) := Finset.univ.map ⟨tokOf, tokOf_inj⟩

def u₀ : XU := (initOf (Pipeline.cells cfgs cellOf_inj) (Pipeline.launchToks cfgs cellOf_inj), initOf allCells allToks)

/-- The tokens on device `c`'s own cells at offset `h`. -/
def mintTok (c : Dev nD) (h : Fin 4) : sProp 𝕄 :=
  iprop(dutyTok EX (barCell c) 0 h ∗ dutyTok EX (rcvCell c h) 0 0 ∗ dutyTok EX (sndCell c h) 0 0)
def minted (c : Dev nD) : sProp 𝕄 := iprop(mintTok (F := F) c 1 ∗ mintTok c 2 ∗ mintTok c 3)

/-- What the launch element gives device `c`: its cells before their first round, its positions, the tokens on its own cells. -/
def G (c : Dev nD) : sProp 𝕄 :=
  iprop((bigSep Finset.univ fun k : Fin 9 => roundState EX (sched m) (kcell (c, k)) 0)
    ∗ places c (fun _ => 0) ∗ (bigSep Finset.univ fun k : Fin 9 => reached EX (kcell (c, k)) 0) ∗ minted c)
/-- What the allocation on all devices makes of it. -/
def G' (c : Dev nD) : sProp 𝕄 := iprop(∃ K, ghost m K c)

/-- The launch element splits into every device's part. -/
theorem fund_all : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok EX x.1 x.2.1 x.2.2 : sProp 𝕄)) ⊢ bigSep Finset.univ fun c : Dev nD => minted c := by
    unfold allToks; rw [bigSep_map, bigSep_univ_prod]
    refine bigSep_mono fun c _ => ?_
    show (bigSep Finset.univ fun k : Fin 9 => dutyTok EX (tokOf (c, k)).1 (tokOf (c, k)).2.1 (tokOf (c, k)).2.2) ⊢ (minted c : sProp 𝕄)
    unfold minted mintTok; rw [bigSep_nine]
    iintro ⟨H1, H2, H3, H4, H5, H6, H7, H8, H9⟩
    isplitl [H1 H2 H3]
    · isplitl [H1]; · iexact H1
      isplitl [H2] <;> iassumption
    isplitl [H4 H5 H6]
    · isplitl [H4]; · iexact H4
      isplitl [H5] <;> iassumption
    isplitl [H7]; · iexact H7
    isplitl [H8] <;> iassumption
  iintro HX
  imod (Rounds.fund EX (sched m) allCells allToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := hT $$ Htok
  unfold G places; simp only [bigSep_sep']
  isplitl [Hst']; · iexact Hst'
  isplitl [Hat']; · iexact Hat'
  isplitl [Hr'] <;> iassumption

/-! ## The invariants -/

theorem ownSems0_eq (c : Dev nD) : (Pipeline.ownSems0 (Ix := Unit) (Name := ℕ) (U := XU) (Lvl := ℕ) (Val := Elt F) (τ := τ) osem c : sProp 𝕄)
    = iprop(semVal (sndCell c 0) 0 ∗ semVal (sndCell c 1) 0 ∗ semVal (sndCell c 2) 0 ∗ semVal (sndCell c 3) 0
        ∗ semVal (rcvCell c 0) 0 ∗ semVal (rcvCell c 1) 0 ∗ semVal (rcvCell c 2) 0 ∗ semVal (rcvCell c 3) 0) := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's own counters and its barrier's are its nine counters. -/
theorem zeros_eq (c : Dev nD) :
    (zeros c : sProp 𝕄) = iprop(unscopedSems0 c ∗ Pipeline.ownSems0 (Ix := Unit) (Name := ℕ) (U := XU) (Lvl := ℕ) (Val := Elt F) (τ := τ) osem c) := by
  unfold zeros; rw [ownSems0_eq, unscopedSems0_eq, bigSep_nine]

/-- On one device every counter and the cell it counts for become an invariant. -/
theorem alloc_one (c : Dev nD) :
    iprop(Pipeline.ownSems0 (Ix := Unit) (Name := ℕ) (U := XU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ places c (fun _ => 0) ∗ (bigSep Finset.univ fun k : Fin 9 => reached EX (kcell (c, k)) 0) ∗ minted c) := by
  have halloc : iprop(zeros c ∗ bigSep Finset.univ fun k : Fin 9 => roundState EX (sched m) (kcell (c, k)) 0)
      ⊢ (|={Set.univ}=> bigSep Finset.univ fun k => iprop(∃ κ : ℕ, cellInv EX (sched m) κ (kcell (c, k))) : sProp 𝕄) := by
    unfold zeros; rw [← bigSep_sep']
    exact (bigSep_mono fun k _ => (Rounds.body_intro EX (sched m) (kcell (c, k))).trans inv_alloc).trans (bigSep_fupd _ _)
  unfold G
  iintro ⟨Hos, Hus, Hst, Hat, Hr, Htok⟩
  imod halloc $$ [Hos Hus Hst] with Hinv
  · isplitl [Hos Hus]
    · rw [zeros_eq]; isplitl [Hus] <;> iassumption
    iexact Hst
  imodintro
  isplitl [Hinv]; · iexact Hinv
  isplitl [Hat]; · iexact Hat
  isplitl [Hr] <;> iassumption

/-- The tokens of one offset go from the devices on whose cells they lie to the devices that pay with them. -/
theorem deal (h : Fin 4) : (bigSep Finset.univ fun c : Dev nD => (mintTok c h : sProp 𝕄)) ⊢ bigSep Finset.univ fun c : Dev nD => payTok c h := by
  unfold mintTok payTok
  rw [bigSep_sep', bigSep_sep', bigSep_sep', bigSep_sep',
    bigSep_univ_equiv (turn h) (fun c : Dev nD => (dutyTok EX (barCell c) 0 h : sProp 𝕄)),
    bigSep_univ_equiv (turn h) (fun c : Dev nD => (dutyTok EX (rcvCell c h) 0 0 : sProp 𝕄))]
  exact fun _ h => h

theorem regroup :
    (bigSep Finset.univ fun c : Dev nD => iprop((bigSep Finset.univ fun k => iprop(∃ κ : ℕ, cellInv EX (sched m) κ (kcell (c, k))))
          ∗ places c (fun _ => 0) ∗ (bigSep Finset.univ fun k : Fin 9 => reached EX (kcell (c, k)) 0) ∗ minted c) : sProp 𝕄)
      ⊢ bigSep Finset.univ (G' m) := by
  have hjoin (K : Dev nD × Fin 9 → ℕ) : iprop(records m K ∗ bigSep Finset.univ fun c : Dev nD =>
      iprop(places (F := F) c (fun _ => 0) ∗ payTok c 1 ∗ payTok c 2 ∗ payTok c 3)) ⊢ bigSep Finset.univ (G' m) := by
    refine (sep_mono_left (BI.bigSep_of_persistent (Finset.univ : Finset (Dev nD)) (records m K))).trans ?_
    rw [← bigSep_sep']
    refine bigSep_mono fun c _ => ?_
    show iprop(records m K ∗ places c (fun _ => 0) ∗ payTok c 1 ∗ payTok c 2 ∗ payTok c 3) ⊢ (iprop(∃ K, ghost m K c) : sProp 𝕄)
    iintro H
    iexists K; unfold ghost; iexact H
  unfold minted
  rw [bigSep_sep', bigSep_sep', bigSep_sep', bigSep_sep', bigSep_sep', ← bigSep_univ_prod (fun ck : Dev nD × Fin 9 => iprop(∃ κ : ℕ, cellInv EX (sched m) κ (kcell ck))),
    ← bigSep_univ_prod (fun ck : Dev nD × Fin 9 => (reached EX (kcell ck) 0 : sProp 𝕄))]
  iintro ⟨HI, Hat, #HR, H1, H2, H3⟩
  ihave HK := (BI.bigSep_exists_pi Finset.univ (fun (ck : Dev nD × Fin 9) (κ : ℕ) => (cellInv EX (sched m) κ (kcell ck) : sProp 𝕄))) $$ HI
  icases HK with ⟨%K, #HI⟩
  ihave P1 := (deal (F := F) 1) $$ H1
  ihave P2 := (deal (F := F) 2) $$ H2
  ihave P3 := (deal (F := F) 3) $$ H3
  iapply (hjoin K)
  isplitr
  · unfold records; isplitl; · iexact HI
    iexact HR
  simp only [bigSep_sep']
  isplitl [Hat]; · iexact Hat
  isplitl [P1]; · iexact P1
  isplitl [P2] <;> iassumption

/-- The allocation on all devices at once. -/
theorem glob : (bigSep Finset.univ fun c => iprop(Pipeline.ownSems0 (Ix := Unit) (Name := ℕ) (U := XU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (regroup m))

/-! ## The credits -/

theorem bar_iff {a b : Dev nD} : barCell a = barCell b ↔ a = b :=
  ⟨fun h => congrArg (fun g : GSem nD τ sig => g.1.1) h, fun h => h ▸ rfl⟩
theorem rcvS_inj : ∀ h k : Fin 4, SemLoc.dma (sig := sig) (rcvS h) = .dma (rcvS k) → h = k := by decide
theorem rcv_iff {a b : Dev nD} {h k : Fin 4} : rcvCell a h = rcvCell b k ↔ a = b ∧ h = k :=
  ⟨fun e => ⟨congrArg (fun g : GSem nD τ sig => g.1.1) e, rcvS_inj h k (congrArg Prod.snd e)⟩, fun ⟨e, e'⟩ => e ▸ e' ▸ rfl⟩
theorem bar_ne_rcv {a b : Dev nD} {h : Fin 4} : barCell a = rcvCell b h ↔ False :=
  ⟨fun e => absurd (congrArg Prod.snd e) (by simp), False.elim⟩
theorem rcv_ne_bar {a b : Dev nD} {h : Fin 4} : rcvCell a h = barCell b ↔ False :=
  ⟨fun e => absurd (congrArg Prod.snd e) (by simp), False.elim⟩

/-- What device `d` owes device `c`'s barrier: one for each offset that leads from `d` to `c`. -/
theorem owed_bar (d c : Dev nD) :
    O₀ d (barCell c) () = (if c = fwd d 3 then 1 else 0) + (if c = fwd d 2 then 1 else 0) + (if c = fwd d 1 then 1 else 0) := by
  unfold O₀ O₅ O₄ O₃ O₂ O₁
  simp only [Pi.add_apply, Finsupp.add_apply, tallyAt_apply, bar_iff, bar_ne_rcv, false_and, if_false, and_true, Nat.zero_add]
/-- What device `d` owes the receive cell of device `c` at offset `h`. -/
theorem owed_rcv (d c : Dev nD) (h : Fin 4) (hh : h ≠ 0) : O₀ d (rcvCell c h) () = if d = bwd c h then N else 0 := by
  have e : ∀ (d c : Dev nD) (h : Fin 4), (c = fwd d h) = (d = bwd c h) := by decide
  unfold O₀ O₅ O₄ O₃ O₂ O₁
  simp only [Pi.add_apply, Finsupp.add_apply, tallyAt_apply, rcv_iff, rcv_ne_bar, false_and, if_false, and_true, Nat.add_zero]
  have hc : h = 1 ∨ h = 2 ∨ h = 3 := by revert h; decide
  rcases hc with rfl | rfl | rfl
  · rw [if_neg (fun h => absurd h.2 (by decide)), if_neg (c := _ ∧ (1 : Fin 4) = 2) (fun h => absurd h.2 (by decide))]
    simp only [e, and_true, Nat.zero_add, Nat.add_zero]
  · rw [if_neg (c := _ ∧ (2 : Fin 4) = 3) (fun h => absurd h.2 (by decide)), if_neg (c := _ ∧ (2 : Fin 4) = 1) (fun h => absurd h.2 (by decide))]
    simp only [e, and_true, Nat.zero_add, Nat.add_zero]
  · rw [if_neg (c := _ ∧ (3 : Fin 4) = 1) (fun h => absurd h.2 (by decide)), if_neg (c := _ ∧ (3 : Fin 4) = 2) (fun h => absurd h.2 (by decide))]
    simp only [e, and_true, Nat.zero_add, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_rcv (c : Dev nD) (h : Fin 4) (hh : h ≠ 0) :
    tallyOn (rcvCell c h) (launchCredit (Pipeline.owing O₀) 0 (rcvCell c h)) = (tallyAt (rcvCell c h) () N : CellTallies nD τ sig Unit) := by
  unfold tallyAt; refine congrArg _ (Finsupp.ext fun u => ?_); cases u
  rw [Pipeline.launchCredit_owing, Finsupp.single_eq_same, Finset.sum_congr rfl fun d _ => owed_rcv d c h hh, Finset.sum_ite_eq' Finset.univ (bwd c h) fun _ => N,
    if_pos (Finset.mem_univ _)]

/-- The credits of a device at launch: three on its barrier, one block on each of its three receive cells. -/
theorem creds (c : Dev nD) : (Pipeline.launchCred O₀ c : sProp 𝕄)
    ⊢ iprop(cred (tallyAt (barCell c) () 3) ∗ cred (tallyAt (rcvCell c 1) () N) ∗ cred (tallyAt (rcvCell c 2) () N) ∗ cred (tallyAt (rcvCell c 3) () N)) := by
  unfold Pipeline.launchCred
  rw [← launch_bar, ← launch_rcv c 1 (by decide), ← launch_rcv c 2 (by decide), ← launch_rcv c 3 (by decide)]
  refine (bigSep_subset (Finset.subset_univ ([SemLoc.reg barS, .dma (rcvS 1), .dma (rcvS 2), .dma (rcvS 3)] : List (SemLoc sig)).toFinset)).trans ?_
  rw [bigSep_eq_bigSepL_of_eq [SemLoc.reg barS, .dma (rcvS 1), .dma (rcvS 2), .dma (rcvS 3)] rfl (by decide)]
  exact fun _ h => h

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H0, H1, H2, H3⟩
  imodintro
  unfold start G'
  isplitl
  · isplitl [HG]; · iexact HG
    isplitl [H0]; · iexact H0
    isplitl [H1]; · iexact H1
    isplitl [H2]; · iexact H2
    isplitl [H3] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ zeros c) from rfl, scopedRest0_eq, zeros_eq]
  unfold scratch
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run leaves in the windows' arrays of every device. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

/-- From any memory with every counter at zero, the program on the four devices ends, each device's arrays at what
    the pipeline leaves in them and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun

end
-- ==== Proof.KernelIdealValue.lean ====
/-
What `KernelIdeal` computes over the extended reals: its result on device `c` is block `c`, along the columns, of
the positive part of the product of the whole `x` and `w`, which is what `ReferenceIdeal` computes.
-/
module

public import proofs.«01_k».proof.Proof.KernelIdealRun
public import proofs.«01_k».proof.Proof.Gen.ReferenceIdeal
public import proofs.«01_k».proof.Proof.Gen.ReferenceIdeal.Run
public import Idealize.ShloMosaic.Lib.MatmulPlain
public import Idealize.ShloMosaic.Lib.StackMember

@[expose] public section

set_option maxRecDepth 8000

noncomputable section

namespace Cert.KernelIdealRun

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

/-! ## The arrays at the two ends of the run, over any floats -/

section Arrays

variable {F : FTy → Type} [FloatOps F] (m : (ℓ : Loc nD τ sig) → Buf (Elt F) ℓ)

/-- The block of `x` a device works on is its whole argument. -/
theorem xstg_eq (c : Dev nD) : xstg m c = m ((c : Thread nD τ).loc main_arg0) :=
  Memref.read_access_unit_zero (Elt F) main_arg0 (off := fun a => (win0_0.index t0_0) a * main_arg0.ty.shape.size a)
    (funext fun a => by fin_cases a <;> decide) (fun a => by fin_cases a <;> decide) _
/-- The copy of `w` a device works on is its whole argument. -/
theorem wstg_eq (c : Dev nD) : wstg m c = m ((c : Thread nD τ).loc main_arg1) :=
  Memref.read_access_unit_zero (Elt F) main_arg1 (off := fun a => (win0_1.index t0_0) a * main_arg1.ty.shape.size a)
    (funext fun a => by fin_cases a <;> decide) (fun a => by fin_cases a <;> decide) _

/-- The arguments end as they began. -/
theorem end_x (c : Dev nD) : (dats m 0 c).arrAt (0 : Fin 3) cfg0.N = m ((c : Thread nD τ).loc main_arg0) := (dats m 0 c).arrAt_in (0 : Fin 3) rfl _
theorem end_w (c : Dev nD) : (dats m 0 c).arrAt (1 : Fin 3) cfg0.N = m ((c : Thread nD τ).loc main_arg1) := (dats m 0 c).arrAt_in (1 : Fin 3) rfl _
/-- The result array ends at what the body leaves in its staging buffer. -/
theorem end_out (c : Dev nD) : (dats m 0 c).arrAt (2 : Fin 3) cfg0.N = outAt m c := by
  have h : (win0_2.blk t0_0).view.read (Elt F) ((dats m 0 c).arrAt (2 : Fin 3) cfg0.N) = outAt m c := by
    rw [show cfg0.N = (t0_0 : Fin cfg0.N).val + 1 from rfl, (dats m 0 c).arrAt_succ (2 : Fin 3) t0_0,
      show (cfg0.win (2 : Fin 3)).flush t0_0 = true from flush0_2 t0_0, if_pos rfl]
    exact View.read_write_univ _ _
  exact (Memref.read_access_unit_zero (Elt F) main_v1 (off := fun a => (win0_2.index t0_0) a * main_v1.ty.shape.size a)
    (funext fun a => by fin_cases a <;> decide) (fun a => by fin_cases a <;> decide) _).symm.trans h

/-- What a run leaves in memory: each device's result, and its two arguments as they were. -/
theorem run_arrays (ρ : Dev nD → PrngReg) :
    θ_run defs (onTc (τ := τ) (main (F := F))) (s₀ m ρ) (fun r => (∀ c : Dev nD,
        r.2.mem ((c.tc : Thread nD τ).loc main_v1) = outAt m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (end_out m c), (h.1 c (0 : Fin 3)).trans (end_x m c),
    (h.1 c (1 : Fin 3)).trans (end_w m c)⟩, h.2⟩) (run_main m ρ)

end Arrays

/-! ## The values over the extended reals -/

/-- The value a payload computes at row `r` and column `q`: the positive part of the sum of the products. -/
theorem pay_apply (x : Vec Ideal S512x2048 .f32) (w : Vec Ideal S2048x512 .f32) (r q : Fin 512) :
    k0_pay5 (F := Ideal) (k0_pay1 x) w (ix2 r q)
      = FloatOps.maximumf (F := Ideal) (φ := .f32) (∑ k : Fin 2048, x (ix2 r k) * w (ix2 k q)) (Scalar.ofBits .f32 0x00000000#32) := by
  unfold k0_pay5 k0_pay1
  rw [shapeCast_self, shapeCast_self]
  show FloatOps.maximumf (F := Ideal) (φ := .f32) (FloatOps.matmul (DotDims.plain 512 2048 512) none x w (constant S512x512 .f32 0x00000000#32) (ix2 r q)) _ = _
  rw [Ideal.matmul_plain_apply]
  show FloatOps.maximumf (F := Ideal) (φ := .f32) (Ideal.ofBits .f32 0x00000000#32 + _) _ = _
  rw [Ideal.ofBits_zero_f32, zero_add]
  rfl

/-- A block narrowed for its journey and widened on arrival is the block: over the extended reals neither changes a value. -/
theorem travel (x : Vec Ideal S512x2048 .f32) (w : Vec Ideal S2048x512 .f32) :
    k0_pay6 (F := Ideal) (k0_pay2 x w) = k0_pay5 (k0_pay1 x) w := by
  unfold k0_pay6 k0_pay2 k0_pay5
  rw [shapeCast_shapeCast]
  rfl

/-- Every block of rows of every result is the same payload, whichever device computes it. -/
theorem outRows_eq (m : (ℓ : Loc nD τ sig) → Buf (Elt Ideal) ℓ) (d c : Dev nD) :
    outRows m d c = k0_pay5 (k0_pay1 (xstg m d)) (wcols m d c) := by
  unfold outRows
  by_cases h : d = c
  · rw [if_pos h, h]
  · rw [if_neg h]; exact travel _ _

/-- The columns of `w` for device `c`, at an index. -/
theorem wcols_apply {F : FTy → Type} [FloatOps F] (m : (ℓ : Loc nD τ sig) → Buf (Elt F) ℓ) (d c : Dev nD) (k : Fin 2048) (q : Fin 512) :
    wcols m d c (ix2 k q) = m ((d : Thread nD τ).loc main_arg1) (ix2 k (⟨512 * c.val + q.val, by have h : c.val < 4 := c.isLt; have := q.isLt; omega⟩ : Fin 2048)) := by
  refine Eq.trans ?_ (congrFun (wstg_eq m d) _)
  show wstg m d ((cols c).emb (ix2 k q)) = _
  refine congrArg (wstg m d) ?_
  funext a
  match a with
  | ⟨0, _⟩ => exact Fin.ext (by show 0 + 1 * k.val = k.val; omega)
  | ⟨1, _⟩ => exact Fin.ext (by show 512 * c.val + 1 * q.val = 512 * c.val + q.val; omega)

/-- The value `ReferenceIdeal` computes from the whole `x` and `w`. -/
abbrev refOut (x w : FVec Ideal Cert.ReferenceIdeal.S2048x2048 .f32) : FVec Ideal Cert.ReferenceIdeal.S2048x2048 .f32 :=
  maximumf (Host.dotGeneral Cert.ReferenceIdeal.dot_S2048x2048_S2048x2048_S2048x2048_1_0_0_1_n_n none x w)
    (broadcastInDim Cert.ReferenceIdeal.S2048x2048 ![] Cert.ReferenceIdeal.Gen.bcast_S_S2048x2048 (constant Cert.ReferenceIdeal.S_ .f32 0x00000000#32))

theorem refOut_apply (x w : FVec Ideal Cert.ReferenceIdeal.S2048x2048 .f32) (r q : Fin 2048) :
    refOut x w (ix2 r q)
      = FloatOps.maximumf (F := Ideal) (φ := .f32) (∑ k : Fin 2048, x (ix2 r k) * w (ix2 k q)) (Scalar.ofBits .f32 0x00000000#32) := by
  show FloatOps.maximumf (F := Ideal) (φ := .f32) (Host.dotGeneral (DotDims.plain 2048 2048 2048) none x w (ix2 r q)) _ = _
  rw [StackMember.dotGeneral_plain_apply]
  rfl

/-- Device `c`'s result is block `c`, along the columns, of the value of the whole arrays. -/
theorem outAt_block (m : (ℓ : Loc nD τ sig) → Buf (Elt Ideal) ℓ) (x w : FVec Ideal Cert.ReferenceIdeal.S2048x2048 .f32)
    (hx : ∀ c : Dev nD, m ((c : Thread nD τ).loc main_arg0) = Layout.block ⟨2, ![512, 2048]⟩ ⟨2, ![2048, 2048]⟩ 0 4 c x)
    (hw : ∀ c : Dev nD, m ((c : Thread nD τ).loc main_arg1) = w) (c : Dev nD) :
    outAt m c = Layout.block ⟨2, ![2048, 512]⟩ ⟨2, ![2048, 2048]⟩ 1 4 c (refOut x w) := by
  funext (i : S2048x512.Idx)
  have hT0 : Layout.Tiles ⟨2, ![512, 2048]⟩ ⟨2, ![2048, 2048]⟩ 0 4 := by decide
  have hT1 : Layout.Tiles ⟨2, ![2048, 512]⟩ ⟨2, ![2048, 2048]⟩ 1 4 := by decide
  have hi0 : (i 0).val < 2048 := (i 0).isLt
  have hi1 : (i 1).val < 512 := (i 1).isLt
  show outAt m c i = refOut x w (hT1.idx c i)
  have er : rowIdx i = ix2 (⟨(i 0).val % 512, Nat.mod_lt _ (by decide)⟩ : Fin 512) (⟨(i 1).val, hi1⟩ : Fin 512) := eq_ix2 _
  have ec : hT1.idx c i = ix2 (⟨(i 0).val, hi0⟩ : Fin 2048) (⟨512 * c.val + (i 1).val, by have h : c.val < 4 := c.isLt; omega⟩ : Fin 2048) := by
    funext a
    match a with
    | ⟨0, _⟩ => exact Fin.ext rfl
    | ⟨1, _⟩ => exact Fin.ext (by show c.val * 512 + (i 1).val = 512 * c.val + (i 1).val; omega)
  rw [outAt_apply, outRows_eq, er, ec, pay_apply, refOut_apply]
  refine congrArg (fun s => FloatOps.maximumf (F := Ideal) (φ := .f32) s (Scalar.ofBits .f32 0x00000000#32)) ?_
  refine Finset.sum_congr rfl fun k _ => ?_
  rw [wcols_apply, hw, xstg_eq, hx]
  refine congrArg (fun j => x j * _) ?_
  funext a
  match a with
  | ⟨0, _⟩ => exact Fin.ext (by show (i 0).val / 512 * 512 + (i 0).val % 512 = (i 0).val; omega)
  | ⟨1, _⟩ => exact Fin.ext rfl

end Cert.KernelIdealRun

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel with its own floats runs on four devices, leaves its arguments as they were and every semaphore at zero. -/
theorem frame_Kernel : quiescent_Kernel (hKernel := Cert.Kernel.Gen.facts) := fun m g _ =>
  (θ_run Cert.Kernel.defs _ _).mono (fun _ h => ⟨fun c =>
    ⟨(h.1 c (0 : Fin 3)).trans ((Cert.KernelRun.dats (F := Bits) m 0 c).arrAt_in (0 : Fin 3) rfl _),
      (h.1 c (1 : Fin 3)).trans ((Cert.KernelRun.dats (F := Bits) m 0 c).arrAt_in (1 : Fin 3) rfl _)⟩, h.2⟩)
    (Cert.KernelRun.run_main (F := Bits) m g)

/-- So does the kernel over the extended reals. -/
theorem frame_KernelIdeal : quiescent_KernelIdeal (hKernelIdeal := Cert.KernelIdeal.Gen.facts) := fun m g _ =>
  (θ_run Cert.KernelIdeal.defs _ _).mono (fun _ h => ⟨fun c => (h.1 c).2, h.2⟩)
    (Cert.KernelIdealRun.run_arrays (F := Ideal) m g)

/-- And so does the reference, which has no semaphore. -/
theorem frame_ReferenceIdeal : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Each device's result over the extended reals is its block of columns of the reference's result. -/
theorem value : algebraic_KernelIdeal_ReferenceIdeal (hKernelIdeal := Cert.KernelIdeal.Gen.facts)
    (hReferenceIdeal := Cert.ReferenceIdeal.Gen.facts) := fun m g m' g' _ hm =>
  ⟨_, (θ_run Cert.KernelIdeal.defs _ _).mono (fun _ h c =>
      ⟨((h.1 c).1).trans (Cert.KernelIdealRun.outAt_block m _ _ (fun c => (hm c).1) (fun c => (hm c).2) c), (h.1 c).2⟩)
      (Cert.KernelIdealRun.run_arrays (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_Kernel, frame_KernelIdeal, frame_ReferenceIdeal, trivial, value⟩

end Cert.Proof

end
